-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_vocab : Cert.Pre_in_vocab.Facts) (hPre_drawn : Cert.Pre_drawn.Facts),
    quiescent_Kernel (hKernel := hKernel) (hPre_in_vocab := hPre_in_vocab)
    ∧ quiescent_KernelIdeal (hKernelIdeal := hKernelIdeal) (hPre_in_vocab := hPre_in_vocab)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S204800 : Shape := ⟨1, ![204800]⟩
abbrev S4096 : Shape := ⟨1, ![4096]⟩
abbrev S100000x128 : Shape := ⟨2, ![100000, 128]⟩
abbrev S10x128 : Shape := ⟨2, ![10, 128]⟩
abbrev S10 : Shape := ⟨1, ![10]⟩
abbrev S_ : Shape := ⟨0, ![]⟩

class Facts : Prop where
  bcast_S_S204800 : S_.BroadcastsInDim S204800 (![] : Fin 0 → Fin S204800.rank)
  reducesTo_S204800_S_d0 : S204800.ReducesTo [0] S_
  h_S_ : 0 < S_.numel
  reducesTo_S4096_S_d0 : S4096.ReducesTo [0] S_
  bcast_S_S100000x128 : S_.BroadcastsInDim S100000x128 (![] : Fin 0 → Fin S100000x128.rank)
  reducesTo_S100000x128_S_d0_1 : S100000x128.ReducesTo [0, 1] S_
  bcast_S_S10x128 : S_.BroadcastsInDim S10x128 (![] : Fin 0 → Fin S10x128.rank)
  reducesTo_S10x128_S_d0_1 : S10x128.ReducesTo [0, 1] S_

variable [Facts]

def fn_part1 {F : FTy → Type} [FloatOps F] (main_v5 : IVec S_ 1) (main_v8 : IVec S_ 1) (main_v12 : IVec S_ 1) (main_v15 : IVec S10x128 1) (main_c_5 : IVec S_ 1) : IVec S_ 1 :=
  let main_v16 : IVec S_ 1 := (fun x v => Host.reduce IntOp.andi x v reducesTo_S10x128_S_d0_1 h_S_) main_v15 main_c_5
  let main_v17 : IVec S_ 1 := andi main_v5 main_v8
  let main_v18 : IVec S_ 1 := andi main_v17 main_v12
  let main_v19 : IVec S_ 1 := andi main_v18 main_v16
  main_v19

def fn {F : FTy → Type} [FloatOps F] (main_arg0 : IVec S204800 32) (main_arg1 : IVec S4096 32) (main_arg2 : FVec F S100000x128 .f32) (main_arg3 : FVec F S10x128 .f32) (main_arg4 : FVec F S10 .f32) : IVec S_ 1 :=
  let main_c : IVec S_ 32 := constantI S_ 32 0#32
  let main_v0 : IVec S204800 32 := broadcastInDim S204800 ![] bcast_S_S204800 main_c
  let main_v1 : IVec S204800 1 := cmpi .sge main_arg0 main_v0
  let main_c_0 : IVec S_ 32 := constantI S_ 32 100000#32
  let main_v2 : IVec S204800 32 := broadcastInDim S204800 ![] bcast_S_S204800 main_c_0
  let main_v3 : IVec S204800 1 := cmpi .slt main_arg0 main_v2
  let main_v4 : IVec S204800 1 := andi main_v1 main_v3
  let main_c_1 : IVec S_ 1 := constantI S_ 1 1#1
  let main_v5 : IVec S_ 1 := (fun x v => Host.reduce IntOp.andi x v reducesTo_S204800_S_d0 h_S_) main_v4 main_c_1
  let main_v6 : IVec S4096 32 := iotaInDim S4096 32 0
  let main_v7 : IVec S4096 1 := cmpi .eq main_arg1 main_v6
  let main_c_2 : IVec S_ 1 := constantI S_ 1 1#1
  let main_v8 : IVec S_ 1 := (fun x v => Host.reduce IntOp.andi x v reducesTo_S4096_S_d0 h_S_) main_v7 main_c_2
  let main_v9 : FVec F S100000x128 .f32 := Host.absf main_arg2
  let main_cst : FVec F S_ .f32 := constant S_ .f32 0x7F800000#32
  let main_v10 : FVec F S100000x128 .f32 := broadcastInDim S100000x128 ![] bcast_S_S100000x128 main_cst
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : FVec F S10x128 .f32 := Host.absf main_arg3
  let main_cst_4 : FVec F S_ .f32 := constant S_ .f32 0x7F800000#32
  let main_v14 : FVec F S10x128 .f32 := broadcastInDim S10x128 ![] bcast_S_S10x128 main_cst_4
  let main_v15 : IVec S10x128 1 := cmpf .olt main_v13 main_v14
  let main_c_5 : IVec S_ 1 := constantI S_ 1 1#1
  fn_part1 (F := F) main_v5 main_v8 main_v12 main_v15 main_c_5
-- ==== Pre_in_vocab.lean ====
abbrev S204800 : Shape := ⟨1, ![204800]⟩
abbrev S4096 : Shape := ⟨1, ![4096]⟩
abbrev S100000x128 : Shape := ⟨2, ![100000, 128]⟩
abbrev S10x128 : Shape := ⟨2, ![10, 128]⟩
abbrev S10 : Shape := ⟨1, ![10]⟩
abbrev S_ : Shape := ⟨0, ![]⟩

class Facts : Prop where
  bcast_S_S204800 : S_.BroadcastsInDim S204800 (![] : Fin 0 → Fin S204800.rank)

variable [Facts]

def fn {F : FTy → Type} [FloatOps F] (main_arg0 : IVec S204800 32) (main_arg1 : IVec S4096 32) (main_arg2 : FVec F S100000x128 .f32) (main_arg3 : FVec F S10x128 .f32) (main_arg4 : FVec F S10 .f32) : IVec S204800 1 :=
  let main_c : IVec S_ 32 := constantI S_ 32 0#32
  let main_v0 : IVec S204800 32 := broadcastInDim S204800 ![] bcast_S_S204800 main_c
  let main_v1 : IVec S204800 1 := cmpi .sge main_arg0 main_v0
  let main_c_0 : IVec S_ 32 := constantI S_ 32 100000#32
  let main_v2 : IVec S204800 32 := broadcastInDim S204800 ![] bcast_S_S204800 main_c_0
  let main_v3 : IVec S204800 1 := cmpi .slt main_arg0 main_v2
  let main_v4 : IVec S204800 1 := andi main_v1 main_v3
  main_v4
-- ==== Kernel.lean ====
abbrev S204800 : Shape := ⟨1, ![204800]⟩
abbrev S4096 : Shape := ⟨1, ![4096]⟩
abbrev S100000x128 : Shape := ⟨2, ![100000, 128]⟩
abbrev S10x128 : Shape := ⟨2, ![10, 128]⟩
abbrev S10 : Shape := ⟨1, ![10]⟩
abbrev S4096x128 : Shape := ⟨2, ![4096, 128]⟩
abbrev S16x784x128 : Shape := ⟨3, ![16, 784, 128]⟩
abbrev S128 : Shape := ⟨1, ![128]⟩
abbrev S12544 : Shape := ⟨1, ![12544]⟩
abbrev S128x128 : Shape := ⟨2, ![128, 128]⟩
abbrev S392x128 : Shape := ⟨2, ![392, 128]⟩
abbrev S_ : Shape := ⟨0, ![]⟩
abbrev S16 : Shape := ⟨1, ![16]⟩
abbrev S1x16 : Shape := ⟨2, ![1, 16]⟩
abbrev S1x392x128 : Shape := ⟨3, ![1, 392, 128]⟩
abbrev S768x10x128 : Shape := ⟨3, ![768, 10, 128]⟩
abbrev S16384x128 : Shape := ⟨2, ![16384, 128]⟩
abbrev S128x10x128 : Shape := ⟨3, ![128, 10, 128]⟩
abbrev S1x10x128 : Shape := ⟨3, ![1, 10, 128]⟩
abbrev S1696x128 : Shape := ⟨2, ![1696, 128]⟩
abbrev S2048x128 : Shape := ⟨2, ![2048, 128]⟩
abbrev S1x10 : Shape := ⟨2, ![1, 10]⟩
abbrev S4096x10 : Shape := ⟨2, ![4096, 10]⟩
abbrev S784x128 : Shape := ⟨2, ![784, 128]⟩
abbrev S768x128 : Shape := ⟨2, ![768, 128]⟩
abbrev S768x1x128 : Shape := ⟨3, ![768, 1, 128]⟩
abbrev S1x128 : Shape := ⟨2, ![1, 128]⟩
abbrev S128x10 : Shape := ⟨2, ![128, 10]⟩
abbrev S4096x1 : Shape := ⟨2, ![4096, 1]⟩

abbrev nBuf : Table → Nat
  | .hbm => 14
  | .local .tc .vmem => 12
  | .local .scVector .vmem => 4
  | _ => 0

abbrev bufTy : (tb : Table) → Fin (nBuf tb) → BufTy
  | .hbm, ⟨0, _⟩ => ⟨S204800, .i32⟩
  | .hbm, ⟨1, _⟩ => ⟨S4096, .i32⟩
  | .hbm, ⟨2, _⟩ => ⟨S100000x128, .f32⟩
  | .hbm, ⟨3, _⟩ => ⟨S10x128, .f32⟩
  | .hbm, ⟨4, _⟩ => ⟨S10, .f32⟩
  | .hbm, ⟨5, _⟩ => ⟨S4096x128, .f32⟩
  | .hbm, ⟨6, _⟩ => ⟨S16x784x128, .f32⟩
  | .hbm, ⟨7, _⟩ => ⟨S768x10x128, .bf16⟩
  | .hbm, ⟨8, _⟩ => ⟨S1696x128, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S1x10, .f32⟩
  | .hbm, ⟨13, _⟩ => ⟨S4096x10, .f32⟩
  | .local .tc .vmem, ⟨0, _⟩ => ⟨S16384x128, .f32⟩
  | .local .tc .vmem, ⟨1, _⟩ => ⟨S16384x128, .f32⟩
  | .local .tc .vmem, ⟨2, _⟩ => ⟨S10x128, .f32⟩
  | .local .tc .vmem, ⟨3, _⟩ => ⟨S128x10x128, .bf16⟩
  | .local .tc .vmem, ⟨4, _⟩ => ⟨S128x10x128, .bf16⟩
  | .local .tc .vmem, ⟨5, _⟩ => ⟨S16x784x128, .f32⟩
  | .local .tc .vmem, ⟨6, _⟩ => ⟨S768x10x128, .bf16⟩
  | .local .tc .vmem, ⟨7, _⟩ => ⟨S2048x128, .f32⟩
  | .local .tc .vmem, ⟨8, _⟩ => ⟨S4096x128, .f32⟩
  | .local .tc .vmem, ⟨9, _⟩ => ⟨S10x128, .f32⟩
  | .local .tc .vmem, ⟨10, _⟩ => ⟨S1x10, .f32⟩
  | .local .tc .vmem, ⟨11, _⟩ => ⟨S4096x10, .f32⟩
  | .local .scVector .vmem, ⟨0, _⟩ => ⟨S128, .i32⟩
  | .local .scVector .vmem, ⟨1, _⟩ => ⟨S12544, .i32⟩
  | .local .scVector .vmem, ⟨2, _⟩ => ⟨S128x128, .f32⟩
  | .local .scVector .vmem, ⟨3, _⟩ => ⟨S392x128, .f32⟩
  | _, _ => ⟨S204800, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_arg0_scv : Ref sig .scVector := ⟨.hbm, 0, rfl⟩
abbrev main_arg2_scv : Ref sig .scVector := ⟨.hbm, 2, rfl⟩
abbrev main_v0_0_scv : Ref sig .scVector := ⟨.hbm, 5, rfl⟩
abbrev main_v0_1_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc2_stg0_0 : Ref sig .tc := ⟨.vmem, 5, rfl⟩
abbrev cc2_stg1_0 : Ref sig .tc := ⟨.vmem, 6, rfl⟩
abbrev cc2_stg2_0 : Ref sig .tc := ⟨.vmem, 7, rfl⟩
abbrev cc2_stg3_0 : Ref sig .tc := ⟨.vmem, 8, rfl⟩
abbrev cc2_stg4_0 : Ref sig .tc := ⟨.vmem, 9, rfl⟩
abbrev cc2_stg5_0 : Ref sig .tc := ⟨.vmem, 10, rfl⟩
abbrev cc2_stg6_0 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c4096_i32 : BitVec 32 := 4096#32
  let arg1 : BitVec 32 := BitVec.ofNat 32 (i 1).val
  let c12544_i32 : BitVec 32 := 12544#32
  let v2 : BitVec 32 := Scalar.muli arg1 c12544_i32
  let v3 : BitVec 32 := Scalar.addi c4096_i32 v2
  ![v3.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v6 : BitVec 32 := Scalar.muli v1 c128_i32
  ![v6.toNat]
@[reducible] def k0_t1_loop : Scf.Loop 32 :=
  let c0_i32_0 : BitVec 32 := 0#32
  let c392_i32 : BitVec 32 := 392#32
  let v10 : BitVec 32 := Scalar.addi c0_i32_0 c392_i32
  let c1_i32 : BitVec 32 := 1#32
  ⟨c0_i32_0, v10, c1_i32⟩
def k0_off3 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v26 : Index := Scalar.indexCast arg14
  let c0 : Index := 0#32
  ![v26.toNat, 0]
def k0_off4 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v28 : Index := Scalar.indexCast arg14
  let c16 : Index := 16#32
  ![v28.toNat, 16]
def k0_off5 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v30 : Index := Scalar.indexCast arg14
  let c32 : Index := 32#32
  ![v30.toNat, 32]
def k0_off6 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v32 : Index := Scalar.indexCast arg14
  let c48 : Index := 48#32
  ![v32.toNat, 48]
def k0_off7 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v34 : Index := Scalar.indexCast arg14
  let c64 : Index := 64#32
  ![v34.toNat, 64]
def k0_off8 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v36 : Index := Scalar.indexCast arg14
  let c80 : Index := 80#32
  ![v36.toNat, 80]
def k0_off9 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v38 : Index := Scalar.indexCast arg14
  let c96 : Index := 96#32
  ![v38.toNat, 96]
def k0_off10 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v40 : Index := Scalar.indexCast arg14
  let c112 : Index := 112#32
  ![v40.toNat, 112]
def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_6 : BitVec 32 := 128#32
  let v15 : BitVec 32 := Scalar.muli v1 c128_i32_6
  let c0_i32_7 : BitVec 32 := 0#32
  ![v15.toNat, 0]
@[reducible] def k0_t2_loop : Scf.Loop 32 :=
  let c0_i32_11 : BitVec 32 := 0#32
  let c784_i32 : BitVec 32 := 784#32
  let v22 : BitVec 32 := Scalar.addi c0_i32_11 c784_i32
  let c1_i32_12 : BitVec 32 := 1#32
  ⟨c0_i32_11, v22, c1_i32_12⟩
def k0_off12 (k0_t2 : Fin k0_t2_loop.trips) : Fin 1 → Nat :=
  let c0_i32_11 : BitVec 32 := 0#32
  let c1_i32_12 : BitVec 32 := 1#32
  let arg14 : BitVec 32 := Scf.iv c0_i32_11 c1_i32_12 k0_t2
  let c16_i32 : BitVec 32 := 16#32
  let v26 : BitVec 32 := Scalar.muli arg14 c16_i32
  let v27 : Index := Scalar.indexCast v26
  ![v27.toNat]

def k0_chk1 (v39 : IVec S16 32) (v41 : IVec S16 32) : Prop :=
  (∀ a x, ((![v39, v41] : Fin 2 → IVec S16 32) a x).toNat < S392x128.size a)
theorem k0_idx1_inb : ∀ (v39 : IVec S16 32) (v41 : IVec S16 32) (k0_hw1 : k0_chk1 v39 v41), ∀ a x, ((![v39, v41] : Fin 2 → IVec S16 32) a x).toNat < S392x128.size a := fun v39 v41 k0_hw1 => k0_hw1
def k0_off13 (i : grid0.Coords) : Fin 3 → Nat :=
  let arg1 : BitVec 32 := BitVec.ofNat 32 (i 1).val
  let arg0 : BitVec 32 := BitVec.ofNat 32 (i 0).val
  let c392_i32_16 : BitVec 32 := 392#32
  let v25 : BitVec 32 := Scalar.muli arg0 c392_i32_16
  let c0_i32_17_r0 : BitVec 32 := 0#32
  ![arg1.toNat, v25.toNat, 0]
abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16384x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x10x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := .none

abbrev stage2_0 : Fin 1 → Memref sig .tc .vmem S16x784x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S768x10x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S2048x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S4096x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S10x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S4096x10 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S204800 : Shape := ⟨1, ![204800]⟩
abbrev S4096 : Shape := ⟨1, ![4096]⟩
abbrev S100000x128 : Shape := ⟨2, ![100000, 128]⟩
abbrev S10x128 : Shape := ⟨2, ![10, 128]⟩
abbrev S10 : Shape := ⟨1, ![10]⟩
abbrev S_ : Shape := ⟨0, ![]⟩
abbrev S204800x1 : Shape := ⟨2, ![204800, 1]⟩
abbrev S1 : Shape := ⟨1, ![1]⟩
abbrev S1x1 : Shape := ⟨2, ![1, 1]⟩
abbrev S204800x128 : Shape := ⟨2, ![204800, 128]⟩
abbrev S1x4096 : Shape := ⟨2, ![1, 4096]⟩
abbrev S204800x4096 : Shape := ⟨2, ![204800, 4096]⟩
abbrev S4096x128 : Shape := ⟨2, ![4096, 128]⟩
abbrev S4096x1 : Shape := ⟨2, ![4096, 1]⟩
abbrev S128x10 : Shape := ⟨2, ![128, 10]⟩
abbrev S4096x10 : Shape := ⟨2, ![4096, 10]⟩
abbrev S1x10 : Shape := ⟨2, ![1, 10]⟩

abbrev nBuf : Space → Nat
  | .hbm => 61
  | .vmem => 0
  | .smem => 0
  | _ => 0

abbrev bufTy : (tb : Table) → Fin (tcTables nBuf tb) → BufTy
  | .hbm, ⟨0, _⟩ => ⟨S204800, .i32⟩
  | .hbm, ⟨1, _⟩ => ⟨S4096, .i32⟩
  | .hbm, ⟨2, _⟩ => ⟨S100000x128, .f32⟩
  | .hbm, ⟨3, _⟩ => ⟨S10x128, .f32⟩
  | .hbm, ⟨4, _⟩ => ⟨S10, .f32⟩
  | .hbm, ⟨5, _⟩ => ⟨S_, .i32⟩
  | .hbm, ⟨6, _⟩ => ⟨S204800, .i32⟩
  | .hbm, ⟨7, _⟩ => ⟨S204800, .i1⟩
  | .hbm, ⟨8, _⟩ => ⟨S_, .i32⟩
  | .hbm, ⟨9, _⟩ => ⟨S204800, .i32⟩
  | .hbm, ⟨10, _⟩ => ⟨S204800, .i32⟩
  | .hbm, ⟨11, _⟩ => ⟨S204800, .i32⟩
  | .hbm, ⟨12, _⟩ => ⟨S204800x1, .i32⟩
  | .hbm, ⟨13, _⟩ => ⟨S1, .i32⟩
  | .hbm, ⟨14, _⟩ => ⟨S_, .i32⟩
  | .hbm, ⟨15, _⟩ => ⟨S204800x1, .i32⟩
  | .hbm, ⟨16, _⟩ => ⟨S204800x1, .i1⟩
  | .hbm, ⟨17, _⟩ => ⟨S1x1, .i32⟩
  | .hbm, ⟨18, _⟩ => ⟨S204800x1, .i32⟩
  | .hbm, ⟨19, _⟩ => ⟨S204800x1, .i1⟩
  | .hbm, ⟨20, _⟩ => ⟨S204800x1, .i1⟩
  | .hbm, ⟨21, _⟩ => ⟨S_, .i1⟩
  | .hbm, ⟨22, _⟩ => ⟨S204800, .i1⟩
  | .hbm, ⟨23, _⟩ => ⟨S204800x128, .f32⟩
  | .hbm, ⟨24, _⟩ => ⟨S204800x128, .i1⟩
  | .hbm, ⟨25, _⟩ => ⟨S_, .f32⟩
  | .hbm, ⟨26, _⟩ => ⟨S204800x128, .f32⟩
  | .hbm, ⟨27, _⟩ => ⟨S204800x128, .f32⟩
  | .hbm, ⟨28, _⟩ => ⟨S204800, .i32⟩
  | .hbm, ⟨29, _⟩ => ⟨S1x4096, .i32⟩
  | .hbm, ⟨30, _⟩ => ⟨S204800x1, .i32⟩
  | .hbm, ⟨31, _⟩ => ⟨S204800x4096, .i32⟩
  | .hbm, ⟨32, _⟩ => ⟨S204800x4096, .i32⟩
  | .hbm, ⟨33, _⟩ => ⟨S204800x4096, .i1⟩
  | .hbm, ⟨34, _⟩ => ⟨S204800x4096, .i32⟩
  | .hbm, ⟨35, _⟩ => ⟨S_, .i32⟩
  | .hbm, ⟨36, _⟩ => ⟨S204800, .i32⟩
  | .hbm, ⟨37, _⟩ => ⟨S_, .i32⟩
  | .hbm, ⟨38, _⟩ => ⟨S204800, .i32⟩
  | .hbm, ⟨39, _⟩ => ⟨S204800, .i32⟩
  | .hbm, ⟨40, _⟩ => ⟨S_, .f32⟩
  | .hbm, ⟨41, _⟩ => ⟨S4096x128, .f32⟩
  | .hbm, ⟨42, _⟩ => ⟨S204800x1, .i32⟩
  | .hbm, ⟨43, _⟩ => ⟨S4096x128, .f32⟩
  | .hbm, ⟨44, _⟩ => ⟨S_, .f32⟩
  | .hbm, ⟨45, _⟩ => ⟨S204800, .f32⟩
  | .hbm, ⟨46, _⟩ => ⟨S_, .f32⟩
  | .hbm, ⟨47, _⟩ => ⟨S4096, .f32⟩
  | .hbm, ⟨48, _⟩ => ⟨S204800x1, .i32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S4096x1, .f32⟩
  | .hbm, ⟨54, _⟩ => ⟨S4096x128, .f32⟩
  | .hbm, ⟨55, _⟩ => ⟨S4096x128, .f32⟩
  | .hbm, ⟨56, _⟩ => ⟨S128x10, .f32⟩
  | .hbm, ⟨57, _⟩ => ⟨S4096x10, .f32⟩
  | .hbm, ⟨58, _⟩ => ⟨S1x10, .f32⟩
  | .hbm, ⟨59, _⟩ => ⟨S4096x10, .f32⟩
  | .hbm, ⟨60, _⟩ => ⟨S4096x10, .f32⟩
  | _, _ => ⟨S204800, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_c : Ref sig .tc := ⟨.hbm, 35, rfl⟩
abbrev main_v8 : Ref sig .tc := ⟨.hbm, 36, rfl⟩
abbrev main_c_0 : Ref sig .tc := ⟨.hbm, 37, rfl⟩
abbrev main_v9 : Ref sig .tc := ⟨.hbm, 38, rfl⟩
abbrev main_v10 : Ref sig .tc := ⟨.hbm, 39, rfl⟩
abbrev main_cst : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst_1 : Ref sig .tc := ⟨.hbm, 44, rfl⟩
abbrev main_v14 : Ref sig .tc := ⟨.hbm, 45, rfl⟩
abbrev main_cst_2 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_3 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩

abbrev nD : Nat := 1
abbrev τ : Topo := Topo.v7x

variable {F : FTy → Type} [FloatOps F]
-- ==== Proof.Setup.lean ====
/-
  The set-up of the kernel's run: the program as the launch theorem sees it, the arrays and scratch buffers the
  SparseCore tasks address, and the VALUES the tasks leave, as plain functions of the launch's `text` and table.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton

@[expose] public section

noncomputable section

namespace Cert.Proof.Bag

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the two pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

abbrev tLoc (d : Dev nD) : Loc nD τ sig := (SparseCore.T d).loc main_arg0
abbrev xLoc (d : Dev nD) : Loc nD τ sig := (SparseCore.T d).loc main_arg2
abbrev headLoc (d : Dev nD) : Loc nD τ sig := (SparseCore.T d).loc main_v0_0
abbrev histLoc (d : Dev nD) : Loc nD τ sig := (SparseCore.T d).loc main_v0_1

/-! ## The tasks' coordinates -/

/-- The grid point of vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

theorem lt_core (L : grid0.Coords) : (L 0).val < 2 := (L 0).isLt
theorem lt_sub (L : grid0.Coords) : (L 1).val < 16 := (L 1).isLt

/-! ## The values the tasks leave -/

section Values

variable [FloatOps F]

/-- Word `n` of `text`, `n` any natural (taken modulo the length). -/
def textN (t : S204800.Idx → BitVec 32) (n : ℕ) : BitVec 32 := t (ix1 ⟨n % 204800, Nat.mod_lt _ (by norm_num)⟩)

/-- The words of `text` a task counts. -/
def bigWords (t : S204800.Idx → BitVec 32) (L : grid0.Coords) : S12544.Idx → BitVec 32 :=
  fun x => textN t (12544 * (L 1).val + 4096 + (x 0).val)

/-- The words of `text` whose rows a task fetches. -/
def headWords (t : S204800.Idx → BitVec 32) (L : grid0.Coords) : S128.Idx → BitVec 32 :=
  fun x => textN t (256 * (L 1).val + 128 * (L 0).val + (x 0).val)

/-- The sixteen words a task counts at trip `k`. -/
def lanes (t : S204800.Idx → BitVec 32) (L : grid0.Coords) (k : ℕ) : Vec F S16 .i32 :=
  fun x => textN t (12544 * (L 1).val + 4096 + (16 * k + (x 0).val))

/-- A word's place in the half of the rows core `c` counts: the word less `50176 c`. -/
def place (L : grid0.Coords) (w : BitVec 32) : BitVec 32 := w - BitVec.ofNat 32 (L 0).val * 50176#32

/-- Whether the word falls in that half. -/
def inHalf (L : grid0.Coords) (w : BitVec 32) : Prop := 0 ≤ (place L w).toInt ∧ (place L w).toInt < 50176

theorem inHalf_lt {L : grid0.Coords} {w : BitVec 32} (h : inHalf L w) : (place L w).toNat < 50176 := by
  obtain ⟨h0, h1⟩ := h
  rw [BitVec.toInt_eq_toNat_cond] at h0 h1
  have := (place L w).isLt
  split at h0 <;> split at h1 <;> omega

theorem mask_iff (L : grid0.Coords) (v : Vec F S16 .i32) (x : S16.Idx) :
    k0_pay4 (F := F) L v x = 1 ↔ inHalf L (v x) := by
  show (BitVec.ofBool ((0#32).sle (place L (v x))) &&& BitVec.ofBool ((place L (v x)).slt 50176#32)) = 1#1 ↔ _
  unfold inHalf
  have h1 : ((0#32).sle (place L (v x)) = true) ↔ 0 ≤ (place L (v x)).toInt := by
    rw [BitVec.sle_iff_toInt_le]; rfl
  have h2 : ((place L (v x)).slt 50176#32 = true) ↔ (place L (v x)).toInt < 50176 := by
    rw [BitVec.slt_iff_toInt_lt]; rfl
  rw [← h1, ← h2]
  cases (0#32).sle (place L (v x)) <;> cases (place L (v x)).slt 50176#32 <;> decide

theorem pay5_eq (L : grid0.Coords) (v : Vec F S16 .i32) (x : S16.Idx) :
    k0_pay5 (F := F) L v x = if k0_pay4 (F := F) L v x = 1 then place L (v x) else 0#32 := rfl

theorem pay5_lt (L : grid0.Coords) (v : Vec F S16 .i32) (x : S16.Idx) : (k0_pay5 (F := F) L v x).toNat < 50176 := by
  rw [pay5_eq]
  split
  · next h => exact inHalf_lt ((mask_iff L v x).mp h)
  · decide

theorem pay6_toNat (L : grid0.Coords) (v : Vec F S16 .i32) (x : S16.Idx) :
    (k0_pay6 (F := F) L v x).toNat = (k0_pay5 (F := F) L v x).toNat / 128 := by
  show (IntOp.shrui ArithUnit.vector (k0_pay5 (F := F) L v x) 7#32).toNat = _
  rw [IntOp.shrui, if_pos (by decide), BitVec.ushiftRight_eq', BitVec.toNat_ushiftRight, Nat.shiftRight_eq_div_pow]
  rfl

theorem pay7_toNat (L : grid0.Coords) (v : Vec F S16 .i32) (x : S16.Idx) :
    (k0_pay7 (F := F) L v x).toNat = (k0_pay5 (F := F) L v x).toNat % 128 := by
  show (k0_pay5 (F := F) L v x &&& 127#32).toNat = _
  rw [BitVec.toNat_and, show (127#32).toNat = 2 ^ 7 - 1 from rfl, Nat.and_two_pow_sub_one_eq_mod]

/-- The row and the lane a task computes for a word are inside its histogram, whatever the word. -/
theorem chk_all (L : grid0.Coords) (v : Vec F S16 .i32) : k0_chk1 (k0_pay6 (F := F) L v) (k0_pay7 (F := F) L v) := by
  intro a x
  match a with
  | 0 => exact (pay6_toNat L v x).trans_lt (by have := pay5_lt L v x; show _ < 392; omega)
  | 1 => exact (pay7_toNat L v x).trans_lt (Nat.mod_lt _ (by norm_num))

/-- One trip's update of a task's histogram. -/
def histStep (L : grid0.Coords) (v : Vec F S16 .i32) (f : Vec F S392x128 .f32) : Vec F S392x128 .f32 :=
  storeIdx f ![k0_pay6 (F := F) L v, k0_pay7 (F := F) L v] (k0_pay2 (F := F)) (k0_pay4 (F := F) L v) true (k0_idx1_inb _ _ (chk_all L v))

/-- The zero of the histogram, as the kernel writes it. -/
def histZero : Elt F .f32 := Scalar.ofBits .f32 0x00000000#32

/-- A task's histogram after `n` trips. -/
def histAcc (t : S204800.Idx → BitVec 32) (L : grid0.Coords) : ℕ → Vec F S392x128 .f32
  | 0 => fun _ => histZero
  | n + 1 => histStep L (lanes t L n) (histAcc t L n)

theorem histAcc_zero (t : S204800.Idx → BitVec 32) (L : grid0.Coords) : histAcc (F := F) t L 0 = fun _ => histZero := rfl
theorem histAcc_succ (t : S204800.Idx → BitVec 32) (L : grid0.Coords) (n : ℕ) : histAcc (F := F) t L (n + 1) = histStep L (lanes t L n) (histAcc t L n) := rfl

attribute [irreducible] histAcc

/-- What the tasks leave in the first array: row `b` is the table's row that word `b` of `text` names. -/
def headVal (t : S204800.Idx → BitVec 32) (x : S100000x128.Idx → Elt F .f32) : S4096x128.Idx → Elt F .f32 :=
  fun j => x (ix2 ⟨(textN t (j 0).val).toNat % 100000, Nat.mod_lt _ (by norm_num)⟩ (j 1))

/-- The task that writes element `j` of the second array. -/
def ownerOf (j : S16x784x128.Idx) : grid0.Coords :=
  coordsV ⟨(j 1).val / 392, by have : (j 1).val < 784 := (j 1).isLt; show _ < 2; omega⟩ (j 0)

/-- What the tasks leave in the second array: task `(c, s)`'s histogram in rows `392 c ..` of slab `s`. -/
def histVal (t : S204800.Idx → BitVec 32) : S16x784x128.Idx → Elt F .f32 :=
  fun j => histAcc t (ownerOf j) 784 (ix2 ⟨(j 1).val % 392, Nat.mod_lt _ (by norm_num)⟩ (j 2))

end Values

end Cert.Proof.Bag
-- ==== Proof.Proj.lean ====
/-
  The first TensorCore region: 128 products of the weights with 128 rows of the table's block each.
-/
module

public import proofs.«01_k».proof.Proof.Setup
public import Idealize.ShloMosaic.Lib.VecWindow
public import Idealize.ShloMosaic.Lib.Pipeline.Value
public import proofs.«01_k».proof.Proof.Gen.KernelIdeal.Launch
public import proofs.«01_k».proof.Proof.Gen.KernelIdeal.Points

@[expose] public section

noncomputable section

namespace Cert.Proof.Bag

open Cert.KernelIdeal Cert.KernelIdeal.Gen

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (SparseCore.Cfg.HIx 1) (Elt F) ℕ UU ℕ

/-- A memref's buffer on core `c`: its contents, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The body of the first region run: the stores of its 128 products, over anything. -/
def projRun (c : Dev nD) (i : grid1.Coords) (M0 : Memref sig .tc .vmem S16384x128 .f32) (h0 : M0.IsWhole) (M1 : Memref sig .tc .vmem S10x128 .f32) (h1 : M1.IsWhole)
    (M2 : Memref sig .tc .vmem S128x10x128 .bf16) (h2 : M2.IsWhole) (f0 : Bf (F := F) c M0) (f1 : Bf (F := F) c M1) :
    { W : Bf (F := F) c M2 // ∀ (f2 : Bf (F := F) c M2) (E : Set ℕ) (Q : PUnit → sProp 𝕄),
        iprop(pt c M0 f0 ∗ pt c M1 f1 ∗ pt c M2 f2 ∗ (iprop(pt c M0 f0 ∗ pt c M1 f1 ∗ pt c M2 W) -∗ Q ⟨⟩))
          ⊢ wp frame (wpE (defs₀ (F := F)) Variants.none c none) E (cc1_body i M0 h0 M1 h1 M2 h2) Q } := by
  refine ⟨?_, fun f2 E Q => ?run⟩
  case run =>
    iintro ⟨H0, H1, H2, Hk⟩
    sl_exec_parts!
    sl_step
    iapply Hk
    isplitl [H0]; · iexact H0
    isplitl [H1]; · iexact H1
    iexact H2

theorem inb_row (k : Fin 128) : ∀ a, (![k.val, 0, 0] : Fin 3 → ℕ) a + S1x10x128.size a ≤ S128x10x128.size a := by
  intro a
  have := k.isLt
  fin_cases a <;> simp [S128x10x128, S1x10x128] <;> omega

theorem inb_rows (k : Fin 128) : ∀ a, (![128 * k.val, 0] : Fin 2 → ℕ) a + S128x128.size a ≤ S16384x128.size a := by
  intro a
  have := k.isLt
  fin_cases a <;> simp [S16384x128, S128x128] <;> omega

/-- One product: the weights with 128 rows, rounded to bfloat16. -/
def product (w : Vec F S10x128 .f32) (x : Vec F S128x128 .f32) : Vec F S10x128 .bf16 :=
  truncf .bf16 (matmul dot_S10x128_S128x128_S10x128_1_1_0_0_n_n none w x (constant S10x128 .f32 0x00000000#32)) bitsLt_bf16_f32

/-- The store of the `k`-th product. -/
def piece (c : Dev nD) (M0 : Memref sig .tc .vmem S16384x128 .f32) (M1 : Memref sig .tc .vmem S10x128 .f32) (f0 : Bf (F := F) c M0) (f1 : Bf (F := F) c M1) (k : Fin 128) :
    View.Piece (Elt F) S128x10x128 .bf16 :=
  ⟨Rect.unit (s := S128x10x128) ![k.val, 0, 0] S1x10x128.size (inb_row k),
    shapeCast S1x10x128 (product (M1.view.readAt (Elt F) (Rect.unit (s := S10x128) ![0, 0] S10x128.size inb_S10x128_S10x128_0_0).toLoadRect f1)
      (M0.view.readAt (Elt F) (Rect.unit (s := S16384x128) ![128 * k.val, 0] S128x128.size (inb_rows k)).toLoadRect f0)) shapeCasts_S10x128_S1x10x128⟩

/-- The stores of the first `n` products, the last first. -/
def pieces (c : Dev nD) (M0 : Memref sig .tc .vmem S16384x128 .f32) (M1 : Memref sig .tc .vmem S10x128 .f32) (f0 : Bf (F := F) c M0) (f1 : Bf (F := F) c M1) :
    (n : ℕ) → n ≤ 128 → List (View.Piece (Elt F) S128x10x128 .bf16)
  | 0, _ => []
  | n + 1, h => piece c M0 M1 f0 f1 ⟨n, h⟩ :: pieces c M0 M1 f0 f1 n (Nat.le_of_succ_le h)

set_option maxRecDepth 16384 in
theorem pieces_eq (c : Dev nD) (M0 : Memref sig .tc .vmem S16384x128 .f32) (M1 : Memref sig .tc .vmem S10x128 .f32) (f0 : Bf (F := F) c M0) (f1 : Bf (F := F) c M1) :
    projRun.sl.H2_128 c M0 M1 f0 f1 = pieces c M0 M1 f0 f1 128 le_rfl := by
  rfl

theorem mem_pieces (c : Dev nD) (M0 : Memref sig .tc .vmem S16384x128 .f32) (M1 : Memref sig .tc .vmem S10x128 .f32) (f0 : Bf (F := F) c M0) (f1 : Bf (F := F) c M1) (k : Fin 128) :
    ∀ (n : ℕ) (h : n ≤ 128), k.val < n → piece c M0 M1 f0 f1 k ∈ pieces c M0 M1 f0 f1 n h
  | 0, _, hk => absurd hk (Nat.not_lt_zero _)
  | n + 1, h, hk => by
      rcases Nat.lt_succ_iff_lt_or_eq.mp hk with hk | hk
      · exact List.mem_cons_of_mem _ (mem_pieces c M0 M1 f0 f1 k n _ hk)
      · subst hk; exact List.mem_cons_self

theorem of_mem_pieces (c : Dev nD) (M0 : Memref sig .tc .vmem S16384x128 .f32) (M1 : Memref sig .tc .vmem S10x128 .f32) (f0 : Bf (F := F) c M0) (f1 : Bf (F := F) c M1) (p) :
    ∀ (n : ℕ) (h : n ≤ 128), p ∈ pieces c M0 M1 f0 f1 n h → ∃ k, p = piece c M0 M1 f0 f1 k
  | 0, _, hp => absurd hp List.not_mem_nil
  | n + 1, h, hp => by
      rcases List.mem_cons.mp hp with hp | hp
      · exact ⟨_, hp⟩
      · exact of_mem_pieces c M0 M1 f0 f1 p n _ hp

/-- The rows of a table's block under its `k`-th product. -/
def rowsOf (x : Vec F S16384x128 .f32) (k : Fin 128) : Vec F S128x128 .f32 := fun y => x (ix2 ⟨128 * k.val + (y 0).val, by have := k.isLt; have := (y 0).isLt; show _ < 16384; simp at this; omega⟩ (y 1))

/-- What the first region's body leaves of a table's block: its `k`-th slab is the `k`-th product. -/
def projOut (x : Vec F S16384x128 .f32) (w : Vec F S10x128 .f32) : Vec F S128x10x128 .bf16 := fun j => product w (rowsOf x (j 0)) (ix2 (j 1) (j 2))

theorem proj_read (c : Dev nD) (i : grid1.Coords) (M0 : Memref sig .tc .vmem S16384x128 .f32) (h0 : M0.IsWhole) (M1 : Memref sig .tc .vmem S10x128 .f32) (h1 : M1.IsWhole)
    (M2 : Memref sig .tc .vmem S128x10x128 .bf16) (h2 : M2.IsWhole) (f0 : Bf (F := F) c M0) (f1 : Bf (F := F) c M1) :
    M2.view.read (Elt F) (projRun c i M0 h0 M1 h1 M2 h2 f0 f1).1 = projOut (M0.view.read (Elt F) f0) (M1.view.read (Elt F) f1) := by
  funext y
  dsimp only [projRun]
  rw [pieces_eq]
  refine View.read_writes_apply_of_pieces M2.view _ (projOut (M0.view.read (Elt F) f0) (M1.view.read (Elt F) f1)) _ (fun p hp x => ?_) y
    ⟨piece c M0 M1 f0 f1 (y 0), mem_pieces c M0 M1 f0 f1 _ _ _ (y 0).isLt, ?_⟩
  · obtain ⟨k, rfl⟩ := of_mem_pieces c M0 M1 f0 f1 p _ _ hp
    have hw : M1.view.readAt (Elt F) (Rect.unit (s := S10x128) ![0, 0] S10x128.size inb_S10x128_S10x128_0_0).toLoadRect f1 = M1.view.read (Elt F) f1 := View.readAt_full _ _ _
    have hx : M0.view.readAt (Elt F) (Rect.unit (s := S16384x128) ![128 * k.val, 0] S128x128.size (inb_rows k)).toLoadRect f0 = rowsOf (M0.view.read (Elt F) f0) k := by
      funext z
      refine congrArg (M0.view.read (Elt F) f0) (Shape.idx_ext₂ ?_ ?_)
      · show 128 * k.val + 1 * (z 0).val = _; simp [ix2]
      · show 0 + 1 * (z 1).val = _; simp [ix2]
    have hj : (piece c M0 M1 f0 f1 k).1.emb x = ix3 k (x 1) (x 2) := by
      funext a
      have h0 : (x 0).val = 0 := by have := (x 0).isLt; exact Nat.lt_one_iff.mp this
      refine Fin.ext ?_
      match a with
      | ⟨0, _⟩ => show k.val + 1 * (x 0).val = k.val; omega
      | ⟨1, _⟩ => show 0 + 1 * (x 1).val = (x 1).val; omega
      | ⟨2, _⟩ => show 0 + 1 * (x 2).val = (x 2).val; omega
    rw [hj]
    show shapeCast S1x10x128 (product _ _) _ x = product (M1.view.read (Elt F) f1) (rowsOf (M0.view.read (Elt F) f0) k) (ix2 (x 1) (x 2))
    rw [hw, hx]
    refine (shapeCast_addUnit_apply ![10, 128] _ _ x).trans (congrArg _ (Shape.idx_ext₂ rfl rfl))
  · refine (Rect.mem_set_unit (inb := inb_row (y 0))).mpr fun a => ?_
    match a with
    | ⟨0, _⟩ => show (y 0).val ≤ (y 0).val ∧ (y 0).val < (y 0).val + 1; omega
    | ⟨1, _⟩ => show 0 ≤ (y 1).val ∧ (y 1).val < 0 + 10; have := (y 1).isLt; exact ⟨Nat.zero_le _, by simpa using this⟩
    | ⟨2, _⟩ => show 0 ≤ (y 2).val ∧ (y 2).val < 0 + 128; have := (y 2).isLt; exact ⟨Nat.zero_le _, by simpa using this⟩

end Cert.Proof.Bag
-- ==== Proof.Fin.lean ====
/-
  The last TensorCore region: the counted projections summed, and the rows' projections with the bias.
-/
module

public import proofs.«01_k».proof.Proof.Proj

@[expose] public section

noncomputable section

namespace Cert.Proof.Bag

open Cert.KernelIdeal Cert.KernelIdeal.Gen

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (SparseCore.Cfg.HIx 1) (Elt F) ℕ UU ℕ

/-- The body of the last region run, over anything in the result's buffer. -/
def finRun (c : Dev nD) (M0 : Memref sig .tc .vmem S16x784x128 .f32) (h0 : M0.IsWhole) (M1 : Memref sig .tc .vmem S768x10x128 .bf16) (h1 : M1.IsWhole)
    (M2 : Memref sig .tc .vmem S2048x128 .f32) (h2 : M2.IsWhole) (M3 : Memref sig .tc .vmem S4096x128 .f32) (h3 : M3.IsWhole)
    (M4 : Memref sig .tc .vmem S10x128 .f32) (h4 : M4.IsWhole) (M5 : Memref sig .tc .vmem S1x10 .f32) (h5 : M5.IsWhole)
    (M6 : Memref sig .tc .vmem S4096x10 .f32) (h6 : M6.IsWhole)
    (f0 : Bf (F := F) c M0) (f1 : Bf (F := F) c M1) (f2 : Bf (F := F) c M2) (f3 : Bf (F := F) c M3) (f4 : Bf (F := F) c M4) (f5 : Bf (F := F) c M5) :
    { W : Bf (F := F) c M6 // ∀ (f6 : Bf (F := F) c M6) (E : Set ℕ) (Q : PUnit → sProp 𝕄),
        iprop(pt c M0 f0 ∗ pt c M1 f1 ∗ pt c M2 f2 ∗ pt c M3 f3 ∗ pt c M4 f4 ∗ pt c M5 f5 ∗ pt c M6 f6
            ∗ (iprop(pt c M0 f0 ∗ pt c M1 f1 ∗ pt c M2 f2 ∗ pt c M3 f3 ∗ pt c M4 f4 ∗ pt c M5 f5 ∗ pt c M6 W) -∗ Q ⟨⟩))
          ⊢ wp frame (wpE (defs₀ (F := F)) Variants.none c none) E (cc2_body M0 h0 M1 h1 M2 h2 M3 h3 M4 h4 M5 h5 M6 h6) Q } := by
  refine ⟨?_, fun f6 E Q => ?run⟩
  case run =>
    iintro ⟨H0, H1, H2, H3, H4, H5, H6, Hk⟩
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    iexact H6

/-! ## What it leaves, in parts -/

theorem slices_row (r : Fin 16) : S784x128.Slices ![768 + r.val, 0] S1x128 :=
  ⟨rfl, fun a => by have := r.isLt; fin_cases a <;> simp [S784x128, S1x128] <;> omega⟩

theorem inb_tail (r : Fin 16) : ∀ a, (![128 * r.val, 0] : Fin 2 → ℕ) a + S128x128.size a ≤ S2048x128.size a := by
  intro a
  have := r.isLt
  fin_cases a <;> simp [S2048x128, S128x128] <;> omega

/-- The counted projections of the table's first 98304 rows, summed. -/
def blockSum (cnt : FVec F S784x128 .f32) (p : Vec F S768x10x128 .bf16) : FVec F S10 .f32 :=
  multiReduction .add [0, 2] S10
    (mulf (broadcastTo S768x10x128 (shapeCast S768x1x128 (extractStridedSlice S768x128 ![0, 0] cnt slices_S784x128_o0_0_S768x128) shapeCasts_S768x128_S768x1x128) broadcasts_S768x1x128_S768x10x128)
      (extf .f32 (shapeCast S768x10x128 p shapeCasts_S768x10x128_S768x10x128) bitsLt_bf16_f32))
    0x00000000#32 reduces_S768x10x128_S10 (.inl rfl) rfl

/-- The counted projections of 128 of the table's last rows, summed. -/
def tailTerm (w : Vec F S10x128 .f32) (cnt : FVec F S784x128 .f32) (x : Vec F S128x128 .f32) (r : Fin 16) : FVec F S10 .f32 :=
  multiReduction .add [1] S10
    (mulf (broadcastTo S10x128 (extractStridedSlice S1x128 ![768 + r.val, 0] cnt (slices_row r)) broadcasts_S1x128_S10x128)
      (matmul dot_S10x128_S128x128_S10x128_1_1_0_0_n_n none w (shapeCast S128x128 x shapeCasts_S128x128_S128x128) (constant S10x128 .f32 0x00000000#32)))
    0x00000000#32 reduces_S10x128_S10 (.inl rfl) rfl

/-- A start, and the first `n` of those sums added to it in turn. -/
def tailSum (w : Vec F S10x128 .f32) (cnt : FVec F S784x128 .f32) (x : Fin 16 → Vec F S128x128 .f32) (b : FVec F S10 .f32) : (n : ℕ) → n ≤ 16 → FVec F S10 .f32
  | 0, _ => b
  | n + 1, h => addf (tailSum w cnt x b n (Nat.le_of_succ_le h)) (tailTerm w cnt (x ⟨n, h⟩) ⟨n, h⟩)

/-- The rows' projections. -/
def headProj (w : Vec F S10x128 .f32) (x : Vec F S4096x128 .f32) : FVec F S4096x10 .f32 :=
  matmul dot_S4096x128_S128x10_S4096x10_1_0_0_1_n_n none (shapeCast S4096x128 x shapeCasts_S4096x128_S4096x128)
    (transpose S128x10 [1, 0] w transposes_S10x128_p1_0_S128x10) (constant S4096x10 .f32 0x00000000#32)

/-- The last row: the sum and the last row's own projection, over the bag's size. -/
def lastRow (s : FVec F S10 .f32) (p : FVec F S4096x10 .f32) : FVec F S1x10 .f32 :=
  divf (addf (shapeCast S1x10 s shapeCasts_S10_S1x10) (extractStridedSlice S1x10 ![4095, 0] p slices_S4096x10_o4095_0_S1x10))
    (broadcast S1x10 (Scalar.ofBits .f32 0x48440040#32))

/-- The rows' projections, the last one replaced, and the bias added. -/
def assembled (p : FVec F S4096x10 .f32) (l : FVec F S1x10 .f32) (b : Vec F S1x10 .f32) : FVec F S4096x10 .f32 :=
  addf
    (select (broadcastTo S4096x10 (shapeCast S4096x1 (cmpi .eq (iota .tc S4096x1 32 [0] iota_S4096x1_d0_w32) (broadcast S4096x1 4095#32)) shapeCasts_S4096x1_S4096x1)
        broadcasts_S4096x1_S4096x10)
      (broadcastTo S4096x10 (shapeCast S1x10 l shapeCasts_S1x10_S1x10) broadcasts_S1x10_S4096x10) p)
    (broadcastTo S4096x10 (shapeCast S1x10 b shapeCasts_S1x10_S1x10) broadcasts_S1x10_S4096x10)

/-- The whole, over the sixteen groups of the table's last rows. -/
def finOf (hist : Vec F S16x784x128 .f32) (p : Vec F S768x10x128 .bf16) (x : Fin 16 → Vec F S128x128 .f32) (head : Vec F S4096x128 .f32) (w : Vec F S10x128 .f32)
    (b : Vec F S1x10 .f32) : FVec F S4096x10 .f32 :=
  assembled (headProj w head) (lastRow (tailSum w (k2_pay2 hist) x (blockSum (k2_pay2 hist) p) 16 le_rfl) (headProj w head)) b

/-- 128 of the table's last rows. -/
def tailRows (x : Vec F S2048x128 .f32) (r : Fin 16) : Vec F S128x128 .f32 := fun y => x (ix2 ⟨128 * r.val + (y 0).val, by have := r.isLt; have := (y 0).isLt; show _ < 2048; simp at this; omega⟩ (y 1))

/-- What the last region's body leaves, over what it reads. -/
def finVal (hist : Vec F S16x784x128 .f32) (p : Vec F S768x10x128 .bf16) (tail : Vec F S2048x128 .f32) (head : Vec F S4096x128 .f32) (w : Vec F S10x128 .f32)
    (b : Vec F S1x10 .f32) : FVec F S4096x10 .f32 := finOf hist p (tailRows tail) head w b

theorem fin_piece (c : Dev nD) (M0 : Memref sig .tc .vmem S16x784x128 .f32) (M1 : Memref sig .tc .vmem S768x10x128 .bf16)
    (M2 : Memref sig .tc .vmem S2048x128 .f32) (M3 : Memref sig .tc .vmem S4096x128 .f32) (M4 : Memref sig .tc .vmem S10x128 .f32) (M5 : Memref sig .tc .vmem S1x10 .f32)
    (f0 : Bf (F := F) c M0) (f1 : Bf (F := F) c M1) (f2 : Bf (F := F) c M2) (f3 : Bf (F := F) c M3) (f4 : Bf (F := F) c M4) (f5 : Bf (F := F) c M5) :
    finRun.sl.H6_1 c M0 M1 M2 M3 M4 M5 f0 f1 f2 f3 f4 f5
      = [⟨Rect.unit (s := S4096x10) ![0, 0] S4096x10.size inb_S4096x10_S4096x10_0_0,
          finOf (M0.view.readAt (Elt F) (Rect.unit (s := S16x784x128) ![0, 0, 0] S16x784x128.size inb_S16x784x128_S16x784x128_0_0_0).toLoadRect f0)
            (M1.view.readAt (Elt F) (Rect.unit (s := S768x10x128) ![0, 0, 0] S768x10x128.size inb_S768x10x128_S768x10x128_0_0_0).toLoadRect f1)
            (fun r => M2.view.readAt (Elt F) (Rect.unit (s := S2048x128) ![128 * r.val, 0] S128x128.size (inb_tail r)).toLoadRect f2)
            (M3.view.readAt (Elt F) (Rect.unit (s := S4096x128) ![0, 0] S4096x128.size inb_S4096x128_S4096x128_0_0).toLoadRect f3)
            (M4.view.readAt (Elt F) (Rect.unit (s := S10x128) ![0, 0] S10x128.size inb_S10x128_S10x128_0_0).toLoadRect f4)
            (M5.view.readAt (Elt F) (Rect.unit (s := S1x10) ![0, 0] S1x10.size inb_S1x10_S1x10_0_0).toLoadRect f5)⟩] := by
  rfl

/-- What the last kernel's one store leaves in its block. -/
theorem fin_read (c : Dev nD) (M0 : Memref sig .tc .vmem S16x784x128 .f32) (h0 : M0.IsWhole) (M1 : Memref sig .tc .vmem S768x10x128 .bf16) (h1 : M1.IsWhole)
    (M2 : Memref sig .tc .vmem S2048x128 .f32) (h2 : M2.IsWhole) (M3 : Memref sig .tc .vmem S4096x128 .f32) (h3 : M3.IsWhole)
    (M4 : Memref sig .tc .vmem S10x128 .f32) (h4 : M4.IsWhole) (M5 : Memref sig .tc .vmem S1x10 .f32) (h5 : M5.IsWhole)
    (M6 : Memref sig .tc .vmem S4096x10 .f32) (h6 : M6.IsWhole)
    (f0 : Bf (F := F) c M0) (f1 : Bf (F := F) c M1) (f2 : Bf (F := F) c M2) (f3 : Bf (F := F) c M3) (f4 : Bf (F := F) c M4) (f5 : Bf (F := F) c M5) :
    M6.view.read (Elt F) (finRun c M0 h0 M1 h1 M2 h2 M3 h3 M4 h4 M5 h5 M6 h6 f0 f1 f2 f3 f4 f5).1
      = finVal (M0.view.read (Elt F) f0) (M1.view.read (Elt F) f1) (M2.view.read (Elt F) f2) (M3.view.read (Elt F) f3) (M4.view.read (Elt F) f4) (M5.view.read (Elt F) f5) := by
  dsimp only [finRun]
  rw [fin_piece]
  refine (View.read_writes_full _ _ _ _ _).trans ?_
  have e0 : M0.view.readAt (Elt F) (Rect.unit (s := S16x784x128) ![0, 0, 0] S16x784x128.size inb_S16x784x128_S16x784x128_0_0_0).toLoadRect f0 = M0.view.read (Elt F) f0 := View.readAt_full _ _ _
  have e1 : M1.view.readAt (Elt F) (Rect.unit (s := S768x10x128) ![0, 0, 0] S768x10x128.size inb_S768x10x128_S768x10x128_0_0_0).toLoadRect f1 = M1.view.read (Elt F) f1 := View.readAt_full _ _ _
  have e2 : (fun r : Fin 16 => M2.view.readAt (Elt F) (Rect.unit (s := S2048x128) ![128 * r.val, 0] S128x128.size (inb_tail r)).toLoadRect f2) = tailRows (M2.view.read (Elt F) f2) := by
    funext r z
    refine congrArg (M2.view.read (Elt F) f2) (Shape.idx_ext₂ ?_ ?_)
    · show 128 * r.val + 1 * (z 0).val = 128 * r.val + (z 0).val; omega
    · show 0 + 1 * (z 1).val = (z 1).val; omega
  have e3 : M3.view.readAt (Elt F) (Rect.unit (s := S4096x128) ![0, 0] S4096x128.size inb_S4096x128_S4096x128_0_0).toLoadRect f3 = M3.view.read (Elt F) f3 := View.readAt_full _ _ _
  have e4 : M4.view.readAt (Elt F) (Rect.unit (s := S10x128) ![0, 0] S10x128.size inb_S10x128_S10x128_0_0).toLoadRect f4 = M4.view.read (Elt F) f4 := View.readAt_full _ _ _
  have e5 : M5.view.readAt (Elt F) (Rect.unit (s := S1x10) ![0, 0] S1x10.size inb_S1x10_S1x10_0_0).toLoadRect f5 = M5.view.read (Elt F) f5 := View.readAt_full _ _ _
  rw [e0, e1, e2, e3, e4, e5]
  rfl

end Cert.Proof.Bag
-- ==== Proof.ProjRegion.lean ====
/-
  The first TensorCore region over the arrays: its proof data, its body's obligation, its segment.
-/
module

public import proofs.«01_k».proof.Proof.Proj
public import Idealize.ShloMosaic.Lib.Pipeline.FrameBody
public import Idealize.ShloMosaic.Lib.Pipeline.Regions

@[expose] public section

noncomputable section

namespace Cert.Proof.Bag

open Cert.KernelIdeal Cert.KernelIdeal.Gen

open Idealize.ShloMosaic Idealize.ShloMosaic.ValueIdx
open Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (SparseCore.Cfg.HIx 1) (Elt F) ℕ UU ℕ

/-- A whole memref owned at contents `X`: its buffer held at something that reads `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns
  rw [h.set_eq_univ]

/-- The rows of the table the `t`-th grid point stages. -/
def tblBlock (x : Vec F S100000x128 .f32) (t : Fin cfg1.N) : Vec F S16384x128 .f32 := fun y =>
  x (ix2 ⟨16384 * t.val + (y 0).val, by have h : t.val < 6 := t.isLt; have := (y 0).isLt; show _ < 100000; simp at this; omega⟩ (y 1))

/-- The projections of the table's first 98304 rows: what the region leaves in its result. -/
def projVal (x : Vec F S100000x128 .f32) (w : Vec F S10x128 .f32) : Vec F S768x10x128 .bf16 := fun j =>
  projOut (tblBlock x ⟨(j 0).val / 128, by have := (j 0).isLt; show _ < 6; simp at this; omega⟩) w
    (ix3 ⟨(j 0).val % 128, Nat.mod_lt _ (by decide)⟩ (j 1) (j 2))

/-- A TensorCore's buffers' contents. -/
abbrev Val' : Type := (c : Dev nD) → (b : Ref sig .tc) → Buf (Elt F) ((c : Thread nD τ).loc b)

variable (V : Val' (F := F))

/-- The waits whose level the handshakes allow after the SparseCore's call. -/
def below (c : Dev nD) : Set (SemLoc sig × SparseCore.Cfg.HIx 1) := {p | (K (F := F)).lev ((SparseCore.T c : Thread nD τ), p.1) p.2 ≤ 8}

/-- The region's proof data: its three arrays at `V`, the body leaving each input as it is staged and the block's products in the result. -/
def projDat (c : Dev nD) : Dat τ (Elt F) (SparseCore.Cfg.HIx 1) ℕ UU ℕ cfg1 c where
  A w := V c (Pipeline.arrRef spec1 w)
  after w t := match w with
    | ⟨0, _⟩ => tblBlock (V c main_arg2) t
    | ⟨1, _⟩ => V c main_arg3
    | ⟨2, _⟩ => projOut (tblBlock (V c main_arg2) t) (V c main_arg3)
  Φ _ := Pipeline.scopedRest (Ix := SparseCore.Cfg.HIx 1) (Name := ℕ) (U := UU) (Lvl := ℕ) (Val := Elt F) spec1 c
  q _ := fullShare
  owed _ := 0
  recorded _ := below (F := F) c

theorem proj_coord (t : Fin cfg1.N) : ((grid1.coords t) 0).val = t.val := by
  have h : t.val < 6 := t.isLt
  show t.val / (Pipeline.Grid.stride grid1 0) % 6 = t.val
  rw [show Pipeline.Grid.stride grid1 0 = 1 by decide, Nat.div_one, Nat.mod_eq_of_lt h]

theorem proj_index0 (t : Fin cfg1.N) (a : Fin 2) : cc1_transform_0 (grid1.coords t) a = (![t.val, 0] : Fin 2 → ℕ) a := by
  have h : t.val < 6 := t.isLt
  match a with
  | ⟨0, _⟩ => show (BitVec.ofNat 32 ((grid1.coords t) 0).val).toNat = t.val; rw [proj_coord, BitVec.toNat_ofNat]; omega
  | ⟨1, _⟩ => rfl

theorem proj_index2 (t : Fin cfg1.N) (a : Fin 3) : cc1_transform_2 (grid1.coords t) a = (![t.val, 0, 0] : Fin 3 → ℕ) a := by
  have h : t.val < 6 := t.isLt
  match a with
  | ⟨0, _⟩ => show (BitVec.ofNat 32 ((grid1.coords t) 0).val).toNat = t.val; rw [proj_coord, BitVec.toNat_ofNat]; omega
  | ⟨1, _⟩ => rfl
  | ⟨2, _⟩ => rfl

theorem proj_before0 (c : Dev nD) (t : Fin cfg1.N) (d) : (projDat V c).before 0 t d = tblBlock (V c main_arg2) t := by
  rw [(projDat V c).before_fetched 0 t (fetch1_0 t)]
  have h : t.val < 6 := t.isLt
  have hclip : ∀ a, win1_0.clip (grid1.coords t) a = none := fun a => by
    show Pipeline.Clip.of (cc1_transform_0 (grid1.coords t) a) (S16384x128.size a) (S100000x128.size a) = none
    rw [proj_index0]
    match a with
    | ⟨0, _⟩ => exact if_pos (show (t.val + 1) * 16384 ≤ 100000 by omega)
    | ⟨1, _⟩ => exact if_pos (show (0 + 1) * 128 ≤ 128 by omega)
  funext j
  have hm : win1_0.moved (grid1.coords t) j = true := (win1_0.moved_iff _ j).mpr fun a => by
    have := (j a).isLt; unfold Pipeline.Window.xsize; rw [hclip a]; exact this
  show win1_0.fill (grid1.coords t) d ((projDat V c).blockOf 0 t) j = _
  unfold Pipeline.Window.fill
  rw [dif_pos hm]
  refine congrArg (V c main_arg2) (Shape.idx_ext₂ ?_ ?_)
  · refine (win1_0.rect_emb_val t _ 0).trans ?_
    show cc1_transform_0 (grid1.coords t) 0 * 16384 + (j 0).val = 16384 * t.val + (j 0).val
    rw [proj_index0]
    show t.val * 16384 + _ = _
    omega
  · refine (win1_0.rect_emb_val t _ 1).trans ?_
    show cc1_transform_0 (grid1.coords t) 1 * 128 + (j 1).val = (j 1).val
    rw [proj_index0]
    show 0 * 128 + _ = _
    omega

/-- The weights' window reads the whole array at every point. -/
theorem proj_block1 (c : Dev nD) (t : Fin cfg1.N) : (projDat V c).blockOf 1 t = V c main_arg3 := by
  funext j
  refine congrArg (V c main_arg3) (Shape.idx_ext₂ ?_ ?_)
  · refine (win1_1.rect_emb_val t j 0).trans ?_
    show 0 * 10 + (j 0).val = (j 0).val
    omega
  · refine (win1_1.rect_emb_val t j 1).trans ?_
    show 0 * 128 + (j 1).val = (j 1).val
    omega

theorem proj_before1 (c : Dev nD) (t : Fin cfg1.N) (d) : (projDat V c).before 1 t d = V c main_arg3 := by
  rw [(projDat V c).before_in_eq_fetched 1 rfl (fun _ => rfl) (fun _ _ _ => rfl) (fun t => (proj_block1 V c t).symm) t d]
  exact proj_block1 V c t

/-- The body, at each grid point, leaves what the proof data says. -/
theorem proj_obligation (c : Dev nD) : BodyObligation (projDat V c) (defs₀ (F := F)) 𝒱₀ none Set.univ := fun t => by
  have h0 : (st1_0 t).IsWhole := hstage1_0 ((cfg1.slots t 0).cast nbuf1_0)
  have h1 : (st1_1 t).IsWhole := hstage1_1 ((cfg1.slots t 1).cast nbuf1_1)
  have h2 : (st1_2 t).IsWhole := hstage1_2 ((cfg1.slots t 2).cast nbuf1_2)
  rw [bigSep_W1, bigSep_W1]
  simp only [owns_pt c (st1_0 t) h0, owns_pt c (st1_1 t) h1, owns_pt c (st1_2 t) h2]
  rw [show (projDat V c).Φ t.succ = (projDat V c).Φ t.castSucc from rfl, show (projDat V c).owesAt none t.succ = (projDat V c).owesAt none t.castSucc from rfl]
  iintro ⟨HΦ, Howes, ⟨%d0, %f0, %hf0, H0⟩, ⟨%d1, %f1, %hf1, H1⟩, ⟨%d2, %f2, -, H2⟩⟩
  rw [proj_before0] at hf0
  rw [proj_before1] at hf1
  have hread := proj_read c (grid1.coords t) (st1_0 t) h0 (st1_1 t) h1 (st1_2 t) h2 f0 f1
  rw [hf0, hf1] at hread
  iapply ((projRun c (grid1.coords t) (st1_0 t) h0 (st1_1 t) h1 (st1_2 t) h2 f0 f1).2 f2 Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists f0; isplitr; · ipureintro; exact hf0
                  iexact H0
  isplitl [H1]; · iexists f1; isplitr; · ipureintro; exact hf1
                  iexact H1
  iexists _; isplitr; swap; · iexact H2
  ipureintro; exact hread

/-- The result's block at a grid point: 128 of its slabs. -/
theorem proj_emb (t : Fin cfg1.N) (j : S128x10x128.Idx) (h : 128 * t.val + (j 0).val < 768) :
    ((cfg1.win 2).blk t).view.emb j = (ix3 ⟨128 * t.val + (j 0).val, h⟩ (j 1) (j 2) : S768x10x128.Idx) := by
  have e : (win1_2.rect t).emb j = (ix3 ⟨128 * t.val + (j 0).val, h⟩ (j 1) (j 2) : S768x10x128.Idx) := by
    funext a
    refine Fin.ext ((win1_2.rect_emb_val t j a).trans ?_)
    show cc1_transform_2 (grid1.coords t) a * S128x10x128.size a + (j a).val = _
    rw [proj_index2]
    match a with
    | ⟨0, _⟩ => show t.val * 128 + (j 0).val = 128 * t.val + (j 0).val; omega
    | ⟨1, _⟩ => show 0 * 10 + (j 1).val = (j 1).val; omega
    | ⟨2, _⟩ => show 0 * 128 + (j 2).val = (j 2).val; omega
  exact e

theorem projVal_at (x : Vec F S100000x128 .f32) (w : Vec F S10x128 .f32) (t : Fin cfg1.N) (j : S128x10x128.Idx) (h : 128 * t.val + (j 0).val < 768) :
    projVal x w (ix3 ⟨128 * t.val + (j 0).val, h⟩ (j 1) (j 2)) = projOut (tblBlock x t) w j := by
  have hj : (j 0).val < 128 := (j 0).isLt
  have e1 : (128 * t.val + (j 0).val) / 128 = t.val := by omega
  have e2 : (128 * t.val + (j 0).val) % 128 = (j 0).val := by omega
  have e3 : ∀ (h : (128 * t.val + (j 0).val) / 128 < cfg1.N), (⟨(128 * t.val + (j 0).val) / 128, h⟩ : Fin cfg1.N) = t := fun h => Fin.ext e1
  show projOut (tblBlock x ⟨(128 * t.val + (j 0).val) / 128, _⟩) w (ix3 ⟨(128 * t.val + (j 0).val) % 128, _⟩ (j 1) (j 2)) = _
  rw [e3]
  refine congrArg _ (funext fun a => Fin.ext ?_)
  match a with
  | ⟨0, _⟩ => exact e2
  | ⟨1, _⟩ => rfl
  | ⟨2, _⟩ => rfl

theorem proj_cover (i : S768x10x128.Idx) : ∃ (t : Fin cfg1.N) (y : S128x10x128.Idx), ((cfg1.win 2).blk t).view.emb y = (show S768x10x128.Idx from i) := by
  have hi : (i 0).val < 768 := (i 0).isLt
  refine ⟨⟨(i 0).val / 128, show _ < 6 by omega⟩, ix3 ⟨(i 0).val % 128, Nat.mod_lt _ (by decide)⟩ (i 1) (i 2),
    (proj_emb ⟨(i 0).val / 128, show _ < 6 by omega⟩ (ix3 ⟨(i 0).val % 128, Nat.mod_lt _ (by decide)⟩ (i 1) (i 2)) (show 128 * ((i 0).val / 128) + (i 0).val % 128 < 768 by omega)).trans ?_⟩
  refine (funext fun a => Fin.ext ?_ : (ix3 _ _ _ : S768x10x128.Idx) = i)
  match a with
  | ⟨0, _⟩ => show 128 * ((i 0).val / 128) + (i 0).val % 128 = (i 0).val; omega
  | ⟨1, _⟩ => rfl
  | ⟨2, _⟩ => rfl

/-- The result's array after the region: the projections. -/
theorem proj_arr (c : Dev nD) : (projDat V c).arrAt 2 cfg1.N = projVal (V c main_arg2) (V c main_arg3) := by
  refine (projDat V c).arrAt_eq_of_cover 2 _ (fun t _ => ?_) fun i => ?_
  · have ht : t.val < 6 := t.isLt
    funext j
    have hj : (j 0).val < 128 := (j 0).isLt
    rw [View.read_apply, proj_emb t j (by omega), projVal_at]
    rfl
  · obtain ⟨t, y, h⟩ := proj_cover i
    have h' := ((cfg1.win 2).blk t).view.emb_mem_set y
    rw [h] at h'
    exact ⟨t, flush1_2 t, h'⟩

end Cert.Proof.Bag
-- ==== Proof.FinRegion.lean ====
/-
  The last TensorCore region over the arrays: its proof data and its body's obligation.
-/
module

public import proofs.«01_k».proof.Proof.Fin
public import proofs.«01_k».proof.Proof.ProjRegion

@[expose] public section

noncomputable section

namespace Cert.Proof.Bag

open Cert.KernelIdeal Cert.KernelIdeal.Gen

open Idealize.ShloMosaic Idealize.ShloMosaic.ValueIdx
open Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (SparseCore.Cfg.HIx 1) (Elt F) ℕ UU ℕ

variable (V : Val' (F := F))

/-- What the region leaves of the arrays at `V`. -/
def finAt (c : Dev nD) : Vec F S4096x10 .f32 :=
  finVal (V c main_v0_1) (V c main_v1) (V c main_v3) (V c main_v0_0) (V c main_arg3) (V c main_v4)

/-- The region's proof data: its seven arrays at `V`, the body leaving each input as it is staged and its value in the result. -/
def finDat (c : Dev nD) : Dat τ (Elt F) (SparseCore.Cfg.HIx 1) ℕ UU ℕ cfg2 c where
  A w := V c (Pipeline.arrRef spec2 w)
  after w t := match w with
    | ⟨0, _⟩ => V c main_v0_1
    | ⟨1, _⟩ => V c main_v1
    | ⟨2, _⟩ => V c main_v3
    | ⟨3, _⟩ => V c main_v0_0
    | ⟨4, _⟩ => V c main_arg3
    | ⟨5, _⟩ => V c main_v4
    | ⟨6, _⟩ => finAt V c
  Φ _ := Pipeline.scopedRest (Ix := SparseCore.Cfg.HIx 1) (Name := ℕ) (U := UU) (Lvl := ℕ) (Val := Elt F) spec2 c
  q _ := fullShare
  owed _ := 0
  recorded _ := below (F := F) c

theorem fin_before0 (c : Dev nD) (t : Fin cfg2.N) (d) : (finDat V c).before 0 t d = V c main_v0_1 := by
  rw [(finDat V c).before_fetched 0 t (fetch2_0 t)]
  exact funext fun j => congrArg (V c main_v0_1) (funext fun a => Fin.ext (win2_0.rect_emb_val_of_index_zero t a rfl j))

theorem fin_before1 (c : Dev nD) (t : Fin cfg2.N) (d) : (finDat V c).before 1 t d = V c main_v1 := by
  rw [(finDat V c).before_fetched 1 t (fetch2_1 t)]
  exact funext fun j => congrArg (V c main_v1) (funext fun a => Fin.ext (win2_1.rect_emb_val_of_index_zero t a rfl j))

theorem fin_before2 (c : Dev nD) (t : Fin cfg2.N) (d) : (finDat V c).before 2 t d = V c main_v3 := by
  rw [(finDat V c).before_fetched 2 t (fetch2_2 t)]
  exact funext fun j => congrArg (V c main_v3) (funext fun a => Fin.ext (win2_2.rect_emb_val_of_index_zero t a rfl j))

theorem fin_before3 (c : Dev nD) (t : Fin cfg2.N) (d) : (finDat V c).before 3 t d = V c main_v0_0 := by
  rw [(finDat V c).before_fetched 3 t (fetch2_3 t)]
  exact funext fun j => congrArg (V c main_v0_0) (funext fun a => Fin.ext (win2_3.rect_emb_val_of_index_zero t a rfl j))

theorem fin_before4 (c : Dev nD) (t : Fin cfg2.N) (d) : (finDat V c).before 4 t d = V c main_arg3 := by
  rw [(finDat V c).before_fetched 4 t (fetch2_4 t)]
  exact funext fun j => congrArg (V c main_arg3) (funext fun a => Fin.ext (win2_4.rect_emb_val_of_index_zero t a rfl j))

theorem fin_before5 (c : Dev nD) (t : Fin cfg2.N) (d) : (finDat V c).before 5 t d = V c main_v4 := by
  rw [(finDat V c).before_fetched 5 t (fetch2_5 t)]
  exact funext fun j => congrArg (V c main_v4) (funext fun a => Fin.ext (win2_5.rect_emb_val_of_index_zero t a rfl j))

set_option maxHeartbeats 1600000 in
/-- The body leaves what the proof data says. -/
theorem fin_obligation (c : Dev nD) : BodyObligation (finDat V c) (defs₀ (F := F)) 𝒱₀ none Set.univ := fun t => by
  have h0 : (st2_0 t).IsWhole := hstage2_0 0
  have h1 : (st2_1 t).IsWhole := hstage2_1 0
  have h2 : (st2_2 t).IsWhole := hstage2_2 0
  have h3 : (st2_3 t).IsWhole := hstage2_3 0
  have h4 : (st2_4 t).IsWhole := hstage2_4 0
  have h5 : (st2_5 t).IsWhole := hstage2_5 0
  have h6 : (st2_6 t).IsWhole := hstage2_6 0
  rw [bigSep_W2, bigSep_W2]
  simp only [owns_pt c (st2_0 t) h0, owns_pt c (st2_1 t) h1, owns_pt c (st2_2 t) h2, owns_pt c (st2_3 t) h3, owns_pt c (st2_4 t) h4, owns_pt c (st2_5 t) h5, owns_pt c (st2_6 t) h6]
  rw [show (finDat V c).Φ t.succ = (finDat V c).Φ t.castSucc from rfl, show (finDat V c).owesAt none t.succ = (finDat V c).owesAt none t.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩⟩
  rw [fin_before0] at hf0
  rw [fin_before1] at hf1
  rw [fin_before2] at hf2
  rw [fin_before3] at hf3
  rw [fin_before4] at hf4
  rw [fin_before5] at hf5
  have hread := fin_read c (st2_0 t) h0 (st2_1 t) h1 (st2_2 t) h2 (st2_3 t) h3 (st2_4 t) h4 (st2_5 t) h5 (st2_6 t) h6 f0 f1 f2 f3 f4 f5
  rw [hf0, hf1, hf2, hf3, hf4, hf5] at hread
  iapply ((finRun c (st2_0 t) h0 (st2_1 t) h1 (st2_2 t) h2 (st2_3 t) h3 (st2_4 t) h4 (st2_5 t) h5 (st2_6 t) h6 f0 f1 f2 f3 f4 f5).2 f6 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iexists f0; isplitr; · ipureintro; exact hf0
                  iexact H0
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  isplitl [H4]; · iexists f4; isplitr; · ipureintro; exact hf4
                  iexact H4
  isplitl [H5]; · iexists f5; isplitr; · ipureintro; exact hf5
                  iexact H5
  iexists _; isplitr; swap; · iexact H6
  ipureintro; exact hread

/-- The result's array after the region. -/
theorem fin_arr (c : Dev nD) : (finDat V c).arrAt 6 cfg2.N = finAt V c := by
  have e : ∀ (t : Fin cfg2.N) (j : S4096x10.Idx), ((cfg2.win 6).blk t).view.emb j = (show S4096x10.Idx from j) := fun t j =>
    funext fun a => Fin.ext (win2_6.rect_emb_val_of_index_zero t a rfl j)
  refine (finDat V c).arrAt_eq_of_cover 6 _ (fun t _ => ?_) fun i => ?_
  · funext j
    rw [View.read_apply, e t j]
    rfl
  · have h' := ((cfg2.win 6).blk t2_0).view.emb_mem_set (show S4096x10.Idx from i)
    rw [e] at h'
    exact ⟨t2_0, flush2_6 _, h'⟩

end Cert.Proof.Bag
-- ==== Proof.Segs.lean ====
/-
  The two TensorCore regions over the thread's state: what each needs, what each leaves.
-/
module

public import proofs.«01_k».proof.Proof.FinRegion
public import Idealize.ShloMosaic.Lib.Pipeline.RegionsLoop

@[expose] public section

noncomputable section

namespace Cert.Proof.Bag

open Cert.KernelIdeal Cert.KernelIdeal.Gen

open Idealize.ShloMosaic Idealize.ShloMosaic.ValueIdx
open Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (SparseCore.Cfg.HIx 1) (Elt F) ℕ UU ℕ

variable (adm : (p : Fin 2) → (pcfgs (F := F) p).Adm)
variable (L : GSem nD τ sig → Finset (SparseCore.Cfg.HIx 1)) (lv : GSem nD τ sig → SparseCore.Cfg.HIx 1 → ℕ)
variable (V V' : Val' (F := F))

/-- The proof data of the two regions, at one state of the arrays. -/
def pdats : (p : Fin 2) → (c : Dev nD) → Dat τ (Elt F) (SparseCore.Cfg.HIx 1) ℕ UU ℕ (Pipeline.pin (pcfgs (F := F)) adm p) c
  | ⟨0, _⟩ => fun c => projDat V c
  | ⟨1, _⟩ => fun c => finDat V c

/-- The core owes nothing, its waits below the handshakes' last. -/
abbrev owesNone (c : Dev nD) : sProp 𝕄 :=
  iprop(∃ W, ⌜(K (F := F)).WBelow (SparseCore.T c : Thread nD τ) W 8⌝ ∗ owes (c : Thread nD τ) (0 : CellTallies nD τ sig (SparseCore.Cfg.HIx 1)) W)

/-- The pipelines' own waits are at the lowest level. -/
theorem below_of_bound (c : Dev nD) {W : Waits sig (SparseCore.Cfg.HIx 1)} {B : Set (SemLoc sig × SparseCore.Cfg.HIx 1)}
    (h : (↑W : Set (SemLoc sig × SparseCore.Cfg.HIx 1)) ⊆ below (F := F) c ∪ B) (hB : ∀ p ∈ B, p.2 = none) : (K (F := F)).WBelow (SparseCore.T c : Thread nD τ) W 8 := fun p hp => by
  rcases h hp with h | h
  · exact h
  · rw [hB p h]; exact Nat.zero_le _

set_option backward.isDefEq.respectTransparency.types false in
/-- The first region: from the arrays at `V` to those at `V'`, which differ in the projections only. -/
def projSeg (hout : ∀ c, V' c main_v1 = projVal (V c main_arg2) (V c main_arg3)) (hne : ∀ c (b : Ref sig .tc), b ≠ main_v1 → V' c b = V c b) :
    Pipeline.RegionSeg (pcfgs (F := F)) adm (pdats adm V) none defs₀ 𝒱₀ L lv 0 where
  win := launch1.win.to₀
  block_pos := launch1.block_pos
  stage_whole := launch1.stage_whole
  K := PEmpty
  osem k := k.elim
  ho := Pipeline.OwnSemFacts.none _
  hbody c := (proj_obligation V c).loose
  hwaits := Pipeline.hwaits_of_owed_zero _ _ _ _ L lv 0 fun _ _ => rfl
  pre c := iprop(unscopedBufs c (V c) ∗ owesNone c)
  post c := iprop(unscopedBufs c (V' c) ∗ owesNone c)
  X _ := BI.emp
  Y _ := BI.emp
  Z c := Pipeline.unscopedRest (Ix := SparseCore.Cfg.HIx 1) (Name := ℕ) (U := UU) (Lvl := ℕ) spec1 c (V c)
  hentry c := by
    rw [Pipeline.ownSems0_none]
    have hsplit := Pipeline.arrays_of_unscopedBufs (p := 0) (pcfgs (F := F)) adm (pdats adm V) launch1.win launch1.arr_whole c
      ((pdats adm V 0 c).share_full fun _ => rfl) (V c) fun _ => rfl
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun p hp => Or.inl (hW p hp)
      iexact HO
    isplitr; · iempintro
    iexact Hrest
  hin c := by
    rw [show (pdats adm V 0 c).Φ 0 = (Pipeline.scopedRest (Ix := SparseCore.Cfg.HIx 1) (Name := ℕ) (U := UU) (Lvl := ℕ) (Val := Elt F) spec1 c : sProp 𝕄) from rfl]
    iintro ⟨-, -, Hr⟩; iexact Hr
  hout c := by
    rw [Pipeline.ownSems0_none, show (pdats adm V 0 c).Φ (Fin.last _) = (Pipeline.scopedRest (Ix := SparseCore.Cfg.HIx 1) (Name := ℕ) (U := UU) (Lvl := ℕ) (Val := Elt F) spec1 c : sProp 𝕄) from rfl]
    iintro Hr
    isplitr; · iempintro
    isplitr; · iempintro
    iexact Hr
  hexit c := by
    have hjoin := Pipeline.unscopedBufs_of_arrays (p := 0) (pcfgs (F := F)) adm (Ix := SparseCore.Cfg.HIx 1) (Name := ℕ) (U := UU) (Lvl := ℕ) launch1.win launch1.arr_whole c
      (pdats adm V) ((pdats adm V 0 c).share_full fun _ => rfl) (V c) (V' c) ((pdats adm V 0 c).arrAt · cfg1.N)
      (fun w => by
        fin_cases w
        · exact ((pdats adm V 0 c).arrAt_in 0 rfl _).trans (hne c main_arg2 (by decide)).symm
        · exact ((pdats adm V 0 c).arrAt_in 1 rfl _).trans (hne c main_arg3 (by decide)).symm
        · exact (proj_arr V c).trans (hout c).symm)
      (fun b hb => hne c b fun h => hb (h ▸ Finset.mem_image.mpr ⟨2, Finset.mem_univ _, rfl⟩))
    iintro ⟨Ha, ⟨%W, %hW, HO⟩, -, Hrest⟩
    imodintro
    isplitl [Ha Hrest]
    · iapply hjoin; isplitl [Ha] <;> iassumption
    iexists W
    isplitr; · ipureintro; exact below_of_bound c hW (fun p hp => by obtain ⟨_, _, h⟩ := hp; rw [h])
    iexact HO

set_option backward.isDefEq.respectTransparency.types false in
/-- The last region: from the arrays at `V` to those at `V'`, which differ in the result only. -/
def finSeg (hout : ∀ c, V' c main_v5 = finAt V c) (hne : ∀ c (b : Ref sig .tc), b ≠ main_v5 → V' c b = V c b) :
    Pipeline.RegionSeg (pcfgs (F := F)) adm (pdats adm V) none defs₀ 𝒱₀ L lv 1 where
  win := launch2.win.to₀
  block_pos := launch2.block_pos
  stage_whole := launch2.stage_whole
  K := PEmpty
  osem k := k.elim
  ho := Pipeline.OwnSemFacts.none _
  hbody c := (fin_obligation V c).loose
  hwaits := Pipeline.hwaits_of_owed_zero _ _ _ _ L lv 1 fun _ _ => rfl
  pre c := iprop(unscopedBufs c (V c) ∗ owesNone c)
  post c := iprop(unscopedBufs c (V' c) ∗ owesNone c)
  X _ := BI.emp
  Y _ := BI.emp
  Z c := Pipeline.unscopedRest (Ix := SparseCore.Cfg.HIx 1) (Name := ℕ) (U := UU) (Lvl := ℕ) spec2 c (V c)
  hentry c := by
    rw [Pipeline.ownSems0_none]
    have hsplit := Pipeline.arrays_of_unscopedBufs (p := 1) (pcfgs (F := F)) adm (pdats adm V) launch2.win launch2.arr_whole c
      ((pdats adm V 1 c).share_full fun _ => rfl) (V c) fun _ => rfl
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun p hp => Or.inl (hW p hp)
      iexact HO
    isplitr; · iempintro
    iexact Hrest
  hin c := by
    rw [show (pdats adm V 1 c).Φ 0 = (Pipeline.scopedRest (Ix := SparseCore.Cfg.HIx 1) (Name := ℕ) (U := UU) (Lvl := ℕ) (Val := Elt F) spec2 c : sProp 𝕄) from rfl]
    iintro ⟨-, -, Hr⟩; iexact Hr
  hout c := by
    rw [Pipeline.ownSems0_none, show (pdats adm V 1 c).Φ (Fin.last _) = (Pipeline.scopedRest (Ix := SparseCore.Cfg.HIx 1) (Name := ℕ) (U := UU) (Lvl := ℕ) (Val := Elt F) spec2 c : sProp 𝕄) from rfl]
    iintro Hr
    isplitr; · iempintro
    isplitr; · iempintro
    iexact Hr
  hexit c := by
    have hjoin := Pipeline.unscopedBufs_of_arrays (p := 1) (pcfgs (F := F)) adm (Ix := SparseCore.Cfg.HIx 1) (Name := ℕ) (U := UU) (Lvl := ℕ) launch2.win launch2.arr_whole c
      (pdats adm V) ((pdats adm V 1 c).share_full fun _ => rfl) (V c) (V' c) ((pdats adm V 1 c).arrAt · cfg2.N)
      (fun w => by
        fin_cases w
        · exact ((pdats adm V 1 c).arrAt_in 0 rfl _).trans (hne c main_v0_1 (by decide)).symm
        · exact ((pdats adm V 1 c).arrAt_in 1 rfl _).trans (hne c main_v1 (by decide)).symm
        · exact ((pdats adm V 1 c).arrAt_in 2 rfl _).trans (hne c main_v3 (by decide)).symm
        · exact ((pdats adm V 1 c).arrAt_in 3 rfl _).trans (hne c main_v0_0 (by decide)).symm
        · exact ((pdats adm V 1 c).arrAt_in 4 rfl _).trans (hne c main_arg3 (by decide)).symm
        · exact ((pdats adm V 1 c).arrAt_in 5 rfl _).trans (hne c main_v4 (by decide)).symm
        · exact (fin_arr V c).trans (hout c).symm)
      (fun b hb => hne c b fun h => hb (h ▸ Finset.mem_image.mpr ⟨6, Finset.mem_univ _, rfl⟩))
    iintro ⟨Ha, ⟨%W, %hW, HO⟩, -, Hrest⟩
    imodintro
    isplitl [Ha Hrest]
    · iapply hjoin; isplitl [Ha] <;> iassumption
    iexists W
    isplitr; · ipureintro; exact below_of_bound c hW (fun p hp => by obtain ⟨_, _, h⟩ := hp; rw [h])
    iexact HO

end Cert.Proof.Bag
-- ==== Proof.Tile.lean ====
/-
  One SparseCore task of the kernel, at a symbolic (SparseCore, tile) pair: the two fetches of its words of `text`, the
  zeroing of its histogram, the indirect fetch of its 128 table rows and their write-out, the counting loop, and the
  histogram's write-out. What it leaves is named by `headVal` and `histVal`.
-/
module

public import proofs.«01_k».proof.Proof.Setup

@[expose] public section

noncomputable section

namespace Cert.Proof.Bag

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "tV" => (Memref.whole main_arg0_scv : Memref sig Kind.scVector Space.hbm S204800 EltTy.i32)
local notation "xV" => (Memref.whole main_arg2_scv : Memref sig Kind.scVector Space.hbm S100000x128 EltTy.f32)
local notation "headV" => (Memref.whole main_v0_0_scv : Memref sig Kind.scVector Space.hbm S4096x128 EltTy.f32)
local notation "histV" => (Memref.whole main_v0_1_scv : Memref sig Kind.scVector Space.hbm S16x784x128 EltTy.f32)
local notation "hB" => (Memref.whole cc0_scratch0 : Memref sig Kind.scVector Space.vmem S128 EltTy.i32)
local notation "bB" => (Memref.whole cc0_scratch1 : Memref sig Kind.scVector Space.vmem S12544 EltTy.i32)
local notation "rB" => (Memref.whole cc0_scratch2 : Memref sig Kind.scVector Space.vmem S128x128 EltTy.f32)
local notation "cB" => (Memref.whole cc0_scratch3 : Memref sig Kind.scVector Space.vmem S392x128 EltTy.f32)

section Tile

variable (d : Dev nD) (L : grid0.Coords)

/-! ## The parts of the arrays the task addresses -/

abbrev tBigK : Memref sig .scVector .hbm S12544 .i32 := (tV).slice (Rect.unit (s := S204800) (k0_off1 L) S12544.size (k0_off1_inb L)) (fun _ => rfl)
abbrev tHeadK : Memref sig .scVector .hbm S128 .i32 := (tV).slice (Rect.unit (s := S204800) (k0_off2 L) S128.size (k0_off2_inb L)) (fun _ => rfl)
abbrev xAllK : Memref sig .scVector .hbm S100000x128 .f32 := (xV).slice (Rect.unit (s := S100000x128) ![0, 0] S100000x128.size inb_S100000x128_S100000x128_0_0) (fun _ => rfl)
abbrev headK : Memref sig .scVector .hbm S128x128 .f32 := (headV).slice (Rect.unit (s := S4096x128) (k0_off11 L) S128x128.size (k0_off11_inb L)) (fun _ => rfl)
abbrev histK : Memref sig .scVector .hbm S392x128 .f32 :=
  ((histV).slice (Rect.unit (s := S16x784x128) (k0_off13 L) S1x392x128.size (k0_off13_inb L)) (fun _ => rfl)).squeeze S392x128 squeezes_S1x392x128_S392x128

/-- The elements of the two result arrays a task writes. -/
abbrev headSet (L : grid0.Coords) : Finset S4096x128.Idx := (headK L).view.set
abbrev histSet (L : grid0.Coords) : Finset S16x784x128.Idx := (histK L).view.set

/-! ## The task's own semaphores and buffers -/

abbrev thr : Thread nD τ := V d (cV L) (jV L)
abbrev semHead : GSem nD τ sig := (thr d L, .dma cc0_scratch4.sem)
abbrev semBig : GSem nD τ sig := (thr d L, .dma cc0_scratch5.sem)
abbrev semIdx : GSem nD τ sig := (thr d L, .dma cc0_scratch6.sem)
abbrev semRows : GSem nD τ sig := (thr d L, .dma cc0_scratch7.sem)
abbrev semOut : GSem nD τ sig := (thr d L, .dma cc0_scoped0.sem)

theorem mem_own (s : DmaSem sig) (h : (SemLoc.dma s : SemLoc sig).isScoped .scVector = true) : ((thr d L, .dma s) : GSem nD τ sig) ∈ ownCells (thr d L) :=
  mem_ownCells.mpr ⟨rfl, h⟩

theorem ne_sem {s s' : DmaSem sig} (h : s ≠ s') : ((thr d L, .dma s) : GSem nD τ sig) ≠ (thr d L, .dma s') :=
  fun e => h (SemLoc.dma.inj (congrArg Prod.snd e))

/-- The five semaphores the task uses, and the rest of its own. -/
theorem ownSems0_V :
    (ownSems0 (thr d L) : sProp 𝕄)
      = iprop(semVal (semHead d L) 0 ∗ semVal (semBig d L) 0 ∗ semVal (semIdx d L) 0 ∗ semVal (semRows d L) 0 ∗ semVal (semOut d L) 0
          ∗ bigSep ((((((ownCells (thr d L)).erase (semHead d L)).erase (semBig d L)).erase (semIdx d L)).erase (semRows d L)).erase (semOut d L)) fun g => semVal g 0) := by
  unfold SparseCore.Cfg.ownSems0
  rw [SparseCore.bigSep_erase' (mem_own d L cc0_scratch4.sem (by decide)),
    SparseCore.bigSep_erase' (Finset.mem_erase.mpr ⟨ne_sem d L (by decide), mem_own d L cc0_scratch5.sem (by decide)⟩),
    SparseCore.bigSep_erase' (Finset.mem_erase.mpr ⟨ne_sem d L (by decide), Finset.mem_erase.mpr ⟨ne_sem d L (by decide), mem_own d L cc0_scratch6.sem (by decide)⟩⟩),
    SparseCore.bigSep_erase' (Finset.mem_erase.mpr ⟨ne_sem d L (by decide), Finset.mem_erase.mpr ⟨ne_sem d L (by decide), Finset.mem_erase.mpr ⟨ne_sem d L (by decide),
      mem_own d L cc0_scratch7.sem (by decide)⟩⟩⟩),
    SparseCore.bigSep_erase' (Finset.mem_erase.mpr ⟨ne_sem d L (by decide), Finset.mem_erase.mpr ⟨ne_sem d L (by decide), Finset.mem_erase.mpr ⟨ne_sem d L (by decide),
      Finset.mem_erase.mpr ⟨ne_sem d L (by decide), mem_own d L cc0_scoped0.sem (by decide)⟩⟩⟩⟩)]

abbrev ref (b : Ref sig .scVector) : DevRef τ sig := (Proc.scVector (cV L) (jV L)).devRef b

theorem mem_ref (b : Ref sig .scVector) (h : (ref L b).owner = Owner.proc (.scVector (cV L) (jV L))) : ref L b ∈ ownRefs (τ := τ) (.scVector (cV L) (jV L)) :=
  SparseCore.Cfg.mem_ownRefs_of_owner (p := Proc.scVector (cV L) (jV L)) h

theorem ne_ref {b b' : Ref sig .scVector} (h : b ≠ b') : ref L b ≠ ref L b' := fun e => h (Proc.devRef_injective _ e)

/-- The four scratch buffers, at some contents, and the rest of the task's own. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase (ref L cc0_scratch0)).erase (ref L cc0_scratch1)).erase (ref L cc0_scratch2)).erase (ref L cc0_scratch3))
              fun b => iprop(∃ f, ((d, b) : Loc nD τ sig) ↦{fullShare} f)) := by
  unfold SparseCore.Cfg.ownBufs
  refine (SparseCore.bigSep_erase' (mem_ref L cc0_scratch0 rfl)).trans ?_
  rw [SparseCore.bigSep_erase' (Finset.mem_erase.mpr ⟨ne_ref L (by decide), mem_ref L cc0_scratch1 rfl⟩),
    SparseCore.bigSep_erase' (Finset.mem_erase.mpr ⟨ne_ref L (by decide), Finset.mem_erase.mpr ⟨ne_ref L (by decide), mem_ref L cc0_scratch2 rfl⟩⟩),
    SparseCore.bigSep_erase' (Finset.mem_erase.mpr ⟨ne_ref L (by decide), Finset.mem_erase.mpr ⟨ne_ref L (by decide), Finset.mem_erase.mpr ⟨ne_ref L (by decide),
      mem_ref L cc0_scratch3 rfl⟩⟩⟩)]

theorem pts_headK (f : Buf (Elt F) (headLoc d)) :
    ((headK L).view.loc (thr d L) ↦[(headK L).view.set]{fullShare} f : sProp 𝕄) = headLoc d ↦[headSet L]{fullShare} f := rfl
theorem pts_histK (f : Buf (Elt F) (histLoc d)) :
    ((histK L).view.loc (thr d L) ↦[(histK L).view.set]{fullShare} f : sProp 𝕄) = histLoc d ↦[histSet L]{fullShare} f := rfl

variable [FloatOps F]

/-- What a task takes: shares of `text` and of the table, its part of each result array; and what it brings back. -/
abbrev tileRes (qt qx : PosShare TreeShare) (f : Buf (Elt F) (headLoc d)) (g : Buf (Elt F) (histLoc d)) : sProp 𝕄 :=
  iprop((tLoc d ↦{qt} m (tLoc d)) ∗ (xLoc d ↦{qx} m (xLoc d)) ∗ (headLoc d ↦[headSet L]{fullShare} f) ∗ (histLoc d ↦[histSet L]{fullShare} g))

/-- What the proof asks of the launch memory: every word of `text` names a row of the table. -/
def PreOK : Prop := ∀ (d : Dev nD) (j : S204800.Idx), (m (tLoc d) j).toNat < 100000

/-- The zero loop's invariant: the rows below the trip's are zero. -/
def inv1 (n : Nat) (_ : PUnit) : sProp 𝕄 :=
  iprop(∃ f : Buf (Elt F) ((cB).view.loc (thr d L)), ⌜∀ j : S392x128.Idx, (j 0).val < n → f j = (histZero : Elt F .f32)⌝ ∗ ((cB).view.loc (thr d L) ↦{fullShare} f))

abbrev t1Body : Fin k0_t1_loop.trips → Unit → Prog (TpuEff nD τ sig (Elt F) Λ₀ (.scVector (cV L) (jV L))) Unit :=
  k0_t1_body (F := F) L tV (Memref.isWhole_whole _) xV (Memref.isWhole_whole _) headV (Memref.isWhole_whole _) histV (Memref.isWhole_whole _)
            hB (Memref.isWhole_whole _) bB (Memref.isWhole_whole _) rB (Memref.isWhole_whole _) cB (Memref.isWhole_whole _)
            cc0_scratch4 cc0_scratch5 cc0_scratch6 cc0_scratch7 cc0_scoped0

/-- Writes that all write `z` leave `z` wherever one of them lands or `z` was already. -/
theorem writes_const_apply {Val : EltTy → Type} {κ : Kind} {sp : Space} {s : Shape} {e : EltTy} (v : View sig κ sp s e) (f : v.ty.Contents Val)
    (z : Val e) (j : s.Idx) (Ls : List (View.Piece Val s e)) (hz : ∀ p ∈ Ls, ∀ x, p.2 x = z)
    (h : v.read Val f j = z ∨ ∃ p ∈ Ls, j ∈ p.1.set) : v.read Val (v.writes Val f Ls) j = z := by
  by_cases hc : ∃ p ∈ Ls, j ∈ p.1.set
  · exact View.read_writes_apply_of_pieces v f (fun _ => z) Ls hz j hc
  · rw [View.read_writes_apply_of_forall_not_mem v f j Ls fun p hp hj => hc ⟨p, hp, hj⟩]
    exact h.resolve_right hc

/-- The elements of a row's piece of sixteen lanes. -/
theorem mem_piece {off : Fin 2 → ℕ} {k c : ℕ} (h : off = ![k, c]) {inb : ∀ a, off a + S1x16.size a ≤ S392x128.size a} {j : S392x128.Idx} :
    j ∈ (Rect.unit (s := S392x128) off S1x16.size inb).set ↔ (k ≤ (j 0).val ∧ (j 0).val < k + 1) ∧ (c ≤ (j 1).val ∧ (j 1).val < c + 16) := by
  subst h
  rw [Rect.mem_set_unit]
  exact Fin.forall_fin_two

/-- One trip of the zeroing loop. -/
theorem zero_trip (k : Fin k0_t1_loop.trips) (u : Unit) :
    inv1 (F := F) d L k.val u ⊢ wp frame (wpE (defs₀ (F := F)) 𝒱₀ (thr d L) none) Set.univ (t1Body (F := F) L k u) (fun v => inv1 d L (k.val + 1) v) := by
  unfold inv1 t1Body k0_t1_body
  iintro ⟨%f, %hf, Hc⟩
  sl_exec
  sl_step
  iexists _; isplitr
  swap; · iexact Hc
  ipureintro
  intro j hj
  refine (congrFun (View.read_whole (Val := Elt F) (cc0_scratch3 : Ref sig .scVector) _).symm j).trans (writes_const_apply (cB).view f (histZero : Elt F .f32) j _ ?_ ?_)
  · intro p hp
    simp only [List.mem_cons, List.not_mem_nil, or_false] at hp
    rcases hp with rfl | rfl | rfl | rfl | rfl | rfl | rfl | rfl <;> intro x <;> rfl
  · rcases Nat.lt_or_ge (j 0).val k.val with hlt | hge
    · exact .inl (hf j hlt)
    · right
      have h0 : (j 0).val = k.val := by omega
      have h1 : (j 1).val < 128 := (j 1).isLt
      simp only [List.mem_cons, List.not_mem_nil, or_false, exists_eq_or_imp, exists_eq_left, mem_piece (k0_off3_eq k), mem_piece (k0_off4_eq k),
        mem_piece (k0_off5_eq k), mem_piece (k0_off6_eq k), mem_piece (k0_off7_eq k), mem_piece (k0_off8_eq k), mem_piece (k0_off9_eq k), mem_piece (k0_off10_eq k)]
      omega

/-! ## What the fetches bring -/

theorem read_tHead (t : S204800.Idx → BitVec 32) : (tHeadK L).view.read (Elt F) t = headWords t L := by
  funext x
  refine ((View.read_apply _ _).trans (cast_eq _ _)).trans (congrArg t (funext fun a => Fin.ext ?_))
  match a with
  | 0 =>
    show (k0_off2 L) 0 + 1 * (x 0).val = (256 * (L 1).val + 128 * (L 0).val + (x 0).val) % 204800
    rw [k0_off2_eq]
    have h0 := lt_core L
    have h1 := lt_sub L
    have hx : (x 0).val < 128 := (x 0).isLt
    simp only [Matrix.cons_val_zero]
    omega

theorem read_tBig (t : S204800.Idx → BitVec 32) : (tBigK L).view.read (Elt F) t = bigWords t L := by
  funext x
  refine ((View.read_apply _ _).trans (cast_eq _ _)).trans (congrArg t (funext fun a => Fin.ext ?_))
  match a with
  | 0 =>
    show (k0_off1 L) 0 + 1 * (x 0).val = (12544 * (L 1).val + 4096 + (x 0).val) % 204800
    rw [k0_off1_eq]
    have h0 := lt_core L
    have h1 := lt_sub L
    have hx : (x 0).val < 12544 := (x 0).isLt
    simp only [Matrix.cons_val_zero]
    omega

theorem read_xAll (f : S100000x128.Idx → Elt F .f32) : (xAllK).view.read (Elt F) f = f := by
  funext x
  refine ((View.read_apply _ _).trans (cast_eq _ _)).trans (congrArg f (funext fun a => Fin.ext ?_))
  match a with
  | 0 => show 0 + 1 * (x 0).val = (x 0).val; omega
  | 1 => show 0 + 1 * (x 1).val = (x 1).val; omega

/-- The rows a task fetches. -/
def headRows (t : S204800.Idx → BitVec 32) (x : S100000x128.Idx → Elt F .f32) (L : grid0.Coords) : S128x128.Idx → Elt F .f32 :=
  fun j => x (ix2 ⟨(headWords t L (ix1 (j 0))).toNat % 100000, Nat.mod_lt _ (by norm_num)⟩ (j 1))

theorem inb_head (hpre : PreOK m) : ∀ x, ((hB).view.read (Elt F) (headWords (m (tLoc d)) L) x).toNat < S100000x128.size gathers_S100000x128_S128x128.axis :=
  fun _ => hpre d _

theorem gather_head (t : S204800.Idx → BitVec 32) (x : S100000x128.Idx → Elt F .f32)
    (hin : ∀ y, ((hB).view.read (Elt F) (headWords t L) y).toNat < S100000x128.size gathers_S100000x128_S128x128.axis)
    (hn : S128.numel = S128x128.size gathers_S100000x128_S128x128.axis') (fr : Buf (Elt F) ((rB).view.loc (thr d L))) :
    View.write (Elt F) (rB).view fr (SparseCore.gatherPayload gathers_S100000x128_S128x128 ((xAllK).view.read (Elt F) x) (SparseCore.rows ((hB).view.read (Elt F) (headWords t L)) hn hin)) Finset.univ
      = headRows t x L := by
  rw [read_xAll]
  refine (View.write_whole_univ _ _ _).trans (funext fun j => congrArg x (funext fun a => Fin.ext ?_))
  match a with
  | 0 =>
    show (headWords t L (S128.rowMajor.symm ((j 0).cast hn.symm))).toNat = (headWords t L (ix1 (j 0))).toNat % 100000
    rw [show S128.rowMajor.symm ((j 0).cast hn.symm) = ix1 (j 0) from (Equiv.symm_apply_eq _).mpr (Fin.ext (by exact (Shape.rowMajor_val_one (d := ![128]) (ix1 (j 0))).symm))]
    exact (Nat.mod_eq_of_lt (hin (ix1 (j 0)))).symm
  | 1 => rfl

/-- The counting loop's invariant: the histogram after `n` trips, the words still there. -/
def inv2 (n : Nat) (_ : PUnit) : sProp 𝕄 :=
  iprop(((cB).view.loc (thr d L) ↦{fullShare} (histAcc (m (tLoc d)) L n : Buf (Elt F) ((cB).view.loc (thr d L))))
    ∗ ((bB).view.loc (thr d L) ↦{fullShare} (bigWords (m (tLoc d)) L : Buf (Elt F) ((bB).view.loc (thr d L)))))

abbrev t2Body : Fin k0_t2_loop.trips → Unit → Prog (TpuEff nD τ sig (Elt F) Λ₀ (.scVector (cV L) (jV L))) Unit :=
  k0_t2_body (F := F) L tV (Memref.isWhole_whole _) xV (Memref.isWhole_whole _) headV (Memref.isWhole_whole _) histV (Memref.isWhole_whole _)
            hB (Memref.isWhole_whole _) bB (Memref.isWhole_whole _) rB (Memref.isWhole_whole _) cB (Memref.isWhole_whole _)
            cc0_scratch4 cc0_scratch5 cc0_scratch6 cc0_scratch7 cc0_scoped0

theorem pts_cB_whole (f : Buf (Elt F) ((cB).view.loc (thr d L))) :
    (((cB).access (.whole S392x128)).loc (thr d L) ↦[((cB).access (.whole S392x128)).set]{fullShare} f : sProp 𝕄)
      = (cB).view.loc (thr d L) ↦{fullShare} f := by
  rw [show ((cB).access (.whole S392x128)).set = Finset.univ from Memref.set_access_whole (cc0_scratch3 : Ref sig .scVector)]

/-- The sixteen words a trip loads. -/
theorem read_lanes (t : S204800.Idx → BitVec 32) (k : Fin k0_t2_loop.trips) :
    (bB).view.readAt (Elt F) (Rect.unit (s := S12544) (k0_off12 k) S16.size (k0_off12_inb k)).toLoadRect (bigWords t L) = lanes (F := F) t L k.val := by
  funext x
  show bigWords t L _ = _
  have e : (k0_off12 k) 0 = 16 * k.val := by rw [k0_off12_eq]; rfl
  show textN t (12544 * (L 1).val + 4096 + ((k0_off12 k) 0 + 1 * (x 0).val)) = textN t (12544 * (L 1).val + 4096 + (16 * k.val + (x 0).val))
  exact congrArg (fun n => textN t (12544 * (L 1).val + 4096 + n)) (by omega)

/-- The scattered addition of a trip is the step of the histogram. -/
theorem counted {n : ℕ} {v : Vec F S16 .i32} (t : S204800.Idx → BitVec 32) (hv : v = lanes t L n) :
    View.write (Elt F) ((cB).access (.whole S392x128)) (histAcc t L n)
      (storeIdx (View.read (Elt F) ((cB).access (.whole S392x128)) (histAcc t L n)) ![k0_pay6 L v, k0_pay7 L v] (k0_pay2 (F := F)) (k0_pay4 L v) true (k0_idx1_inb _ _ (chk_all L v))) Finset.univ
      = histAcc t L (n + 1) := by
  subst hv
  rw [histAcc_succ]
  refine (Memref.write_access_whole_univ _ _ _ _).trans ?_
  unfold histStep
  exact congrArg (fun g => storeIdx g _ _ _ true _) (Memref.read_access_whole (Elt F) (cc0_scratch3 : Ref sig .scVector) (histAcc t L n))

/-- One trip of the counting loop. -/
theorem count_trip (k : Fin k0_t2_loop.trips) (u : Unit) :
    inv2 m d L k.val u ⊢ wp frame (wpE (defs₀ (F := F)) 𝒱₀ (thr d L) none) Set.univ (t2Body (F := F) L k u) (fun v => inv2 m d L (k.val + 1) v) := by
  unfold inv2 t2Body k0_t2_body
  iintro ⟨Hc, Hb⟩
  sl_exec
  rw [wp_assume_of _ _ _ _ (show k0_chk1 (count_trip.sl.v39 m d L k) (count_trip.sl.v41 m d L k) from chk_all L _)]
  ihave Hc := (Entails.of_eq (pts_cB_whole (F := F) d L _).symm) $$ Hc
  iapply (SparseCore.wp_vectorStoreIdx 𝒱₀ (thr d L) none Set.univ (base := (cB))) $$ Hc
  iintro Hc
  sl_step
  ihave Hc := (Entails.of_eq (pts_cB_whole (F := F) d L _)) $$ Hc
  isplitl [Hc]
  · iapply (Entails.of_eq (congrArg (fun f => ((cB).view.loc (thr d L) ↦{fullShare} f : sProp 𝕄)) (counted L (m (tLoc d)) (read_lanes L (m (tLoc d)) k)))); iexact Hc
  · iexact Hb

/-! ## What the write-outs leave -/

/-- A write of the whole of a view leaves its payload on the view's elements. -/
theorem writes_whole_apply {Val : EltTy → Type} {κ : Kind} {sp : Space} {s : Shape} {e : EltTy} (v : View sig κ sp s e) (f : v.ty.Contents Val) (w : s.Idx → Val e) (x : s.Idx) :
    v.read Val (v.writes Val f [⟨Rect.whole s, w⟩]) x = w x :=
  (congrArg (v.read Val (v.writes Val f [⟨Rect.whole s, w⟩])) (Rect.emb_whole_apply s x).symm).trans (View.read_writes_cons_emb v f (Rect.whole s) w [] x)

/-- The rows copied out are the tile's part of the head rows. -/
theorem head_written (t : S204800.Idx → BitVec 32) (x : S100000x128.Idx → Elt F .f32) (f : Buf (Elt F) (headLoc d)) :
    ((headK L).view.loc (thr d L) ↦[(headK L).view.set]{fullShare}
        ((headK L).view.writes (Elt F) f [⟨Rect.whole S128x128, (rB).view.read (Elt F) (headRows t x L)⟩]) : sProp 𝕄)
      = headLoc d ↦[headSet L]{fullShare} (headVal t x : Buf (Elt F) (headLoc d)) := by
  refine pointsTo_congr (fun j hj => ?_)
  obtain ⟨y, -, rfl⟩ := Finset.mem_map.mp hj
  refine (((View.read_apply _ _).trans (cast_eq _ _)).symm.trans (writes_whole_apply (headK L).view f _ y)).trans ?_
  have h0 := lt_core L
  have h1 := lt_sub L
  have e0 : (((headK L).view.emb y) 0).val = 256 * (L 1).val + 128 * (L 0).val + (y 0).val := by
    show (k0_off11 L) 0 + 1 * (y 0).val = _
    rw [k0_off11_eq]; simp only [Matrix.cons_val_zero, Nat.one_mul]
  have e1 : ((headK L).view.emb y) 1 = y 1 := Fin.ext (by
    show (k0_off11 L) 1 + 1 * (y 1).val = _
    rw [k0_off11_eq, Nat.one_mul]; exact Nat.zero_add _)
  show x (ix2 ⟨(textN t (256 * (L 1).val + 128 * (L 0).val + (y 0).val)).toNat % 100000, _⟩ (y 1)) = x (ix2 ⟨(textN t (((headK L).view.emb y) 0).val).toNat % 100000, _⟩ (((headK L).view.emb y) 1))
  simp only [e0, e1]

theorem hist_written' (H : grid0.Coords → S392x128.Idx → Elt F .f32) (f : Buf (Elt F) (histLoc d)) :
    ((histK L).view.loc (thr d L) ↦[(histK L).view.set]{fullShare}
        ((histK L).view.writes (Elt F) f [⟨Rect.whole S392x128, (cB).view.read (Elt F) (H L)⟩]) : sProp 𝕄)
      = histLoc d ↦[histSet L]{fullShare} ((fun j => H (ownerOf j) (ix2 ⟨(j 1).val % 392, Nat.mod_lt _ (by norm_num)⟩ (j 2)) : S16x784x128.Idx → Elt F .f32) : Buf (Elt F) (histLoc d)) := by
  refine pointsTo_congr (fun j hj => ?_)
  obtain ⟨y, -, rfl⟩ := Finset.mem_map.mp hj
  refine (((View.read_apply _ _).trans (cast_eq _ _)).symm.trans (writes_whole_apply (histK L).view f _ y)).trans ?_
  have h0 := lt_core L
  have h1 := lt_sub L
  have hy : (y 0).val < 392 := (y 0).isLt
  have hq : Shape.reshapeEquiv (squeezes_S1x392x128_S392x128).numel_eq y = (ix3 (0 : Fin 1) (y 0) (y 1) : S1x392x128.Idx) :=
    Shape.reshapeEquiv_eq_of_rowMajor _ (by
      rw [Shape.rowMajor_val_three, Shape.rowMajor_val_two]; show ((0 : ℕ) * 392 + (y 0).val) * 128 + (y 1).val = (y 0).val * 128 + (y 1).val; omega)
  have hemb : (histK L).view.emb y = (Rect.unit (s := S16x784x128) (k0_off13 L) S1x392x128.size (k0_off13_inb L)).emb (ix3 (0 : Fin 1) (y 0) (y 1) : S1x392x128.Idx) :=
    congrArg (Rect.unit (s := S16x784x128) (k0_off13 L) S1x392x128.size (k0_off13_inb L)).emb hq
  have e0 : (((histK L).view.emb y) 0).val = (L 1).val := by
    rw [hemb]; show (k0_off13 L) 0 + 1 * 0 = _
    rw [k0_off13_eq]; rfl
  have e1 : (((histK L).view.emb y) 1).val = 392 * (L 0).val + (y 0).val := by
    rw [hemb]; show (k0_off13 L) 1 + 1 * (y 0).val = _
    rw [k0_off13_eq, Nat.one_mul]; rfl
  have e2 : ((histK L).view.emb y) 2 = y 1 := Fin.ext (by
    rw [hemb]; show (k0_off13 L) 2 + 1 * (y 1).val = _
    rw [k0_off13_eq, Nat.one_mul]; exact Nat.zero_add _)
  have hown : ownerOf ((histK L).view.emb y) = L := by
    funext a
    match a with
    | 0 => exact Fin.ext (by show (((histK L).view.emb y) 1).val / 392 = _; rw [e1]; omega)
    | 1 => exact Fin.ext e0
  show H L y = H (ownerOf ((histK L).view.emb y)) (ix2 ⟨(((histK L).view.emb y) 1).val % 392, _⟩ (((histK L).view.emb y) 2))
  rw [hown]
  refine congrArg (H L) (funext fun a => ?_)
  match a with
  | 0 => exact Fin.ext (by show (y 0).val = (((histK L).view.emb y) 1).val % 392; rw [e1]; omega)
  | 1 => exact e2.symm

/-- The histogram copied out is the tile's part of the histograms. -/
theorem hist_written (t : S204800.Idx → BitVec 32) (f : Buf (Elt F) (histLoc d)) :
    ((histK L).view.loc (thr d L) ↦[(histK L).view.set]{fullShare}
        ((histK L).view.writes (Elt F) f [⟨Rect.whole S392x128, (cB).view.read (Elt F) (histAcc t L 784)⟩]) : sProp 𝕄)
      = histLoc d ↦[histSet L]{fullShare} (histVal t : Buf (Elt F) (histLoc d)) :=
  hist_written' d L (fun L => histAcc t L 784) f

set_option maxHeartbeats 4000000 in
/-- A tile's body: from its shares of the arguments and its own parts of the results it leaves the head rows and its histogram. -/
theorem tile_body (qt qx : PosShare TreeShare) (hF : (K (F := F)).Facts) (hpre : PreOK m) (O : CellTallies nD τ sig (HIx 1)) (W : Waits sig (HIx 1)) (hO : ∀ g, O g none = 0) :
    iprop(levAts (K (F := F)).L (K (F := F)).lev ∗ emp
        ∗ tileRes m d L qt qx (m (headLoc d)) (m (histLoc d))
        ∗ scopedBufs (thr d L) ∗ scopedSems0 (thr d L) ∗ owes (thr d L) O W)
      ⊢ wp frame (wpE (defs₀ (F := F)) 𝒱₀ (thr d L) none) Set.univ
          (cc0_k L tV (Memref.isWhole_whole _) xV (Memref.isWhole_whole _) headV (Memref.isWhole_whole _) histV (Memref.isWhole_whole _)
            hB (Memref.isWhole_whole _) bB (Memref.isWhole_whole _) rB (Memref.isWhole_whole _) cB (Memref.isWhole_whole _)
            cc0_scratch4 cc0_scratch5 cc0_scratch6 cc0_scratch7 cc0_scoped0)
          fun _ => iprop(tileRes m d L qt qx (headVal (m (tLoc d)) (m (xLoc d))) (histVal (m (tLoc d)))
            ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  simp only [k0_part1_eq_skeleton]; unfold k0_part1_skel
  rw [wp_bind]
  iintro ⟨#Hlv, -, ⟨Ht, Hx, Hhead, Hhist⟩, ⟨⟨%fh, Hh⟩, ⟨%fb, Hb⟩, ⟨%fr, Hr⟩, ⟨%fc, Hc⟩, Hbufs⟩, ⟨HsemH, HsemB, HsemI, HsemR, HsemO, Hsems⟩, HO⟩
  ihave Hmw := (show levAts (K (F := F)).L (K (F := F)).lev ⊢ Transfers.MayWaits (thr d L) (default : HIx 1) O from
    (K (F := F)).mayWaits_none (thr := thr d L) hO) $$ Hlv
  ihave Ht2 := (pointsTo_share (PosShare.mem_left_op_right qt)).1 $$ Ht
  icases Ht2 with ⟨Ht1, Ht2⟩
  ihave Ht1' := (pointsTo_split_subset (q := qt.left) (f := m (tLoc d)) (S := Finset.univ) (Finset.subset_univ (tBigK L).view.set)).1 $$ Ht1
  icases Ht1' with ⟨Hbig, Hbig'⟩
  ihave Ht2' := (pointsTo_split_subset (q := qt.right) (f := m (tLoc d)) (S := Finset.univ) (Finset.subset_univ (tHeadK L).view.set)).1 $$ Ht2
  icases Ht2' with ⟨Hhd, Hhd'⟩
  ihave Hbig := (show (tLoc d ↦[(tBigK L).view.set]{qt.left} m (tLoc d) : sProp 𝕄) ⊢ (tBigK L).view.loc (thr d L) ↦[(tBigK L).view.set]{qt.left} m (tLoc d) from .rfl) $$ Hbig
  ihave Hhd := (show (tLoc d ↦[(tHeadK L).view.set]{qt.right} m (tLoc d) : sProp 𝕄) ⊢ (tHeadK L).view.loc (thr d L) ↦[(tHeadK L).view.set]{qt.right} m (tLoc d) from .rfl) $$ Hhd
  ihave Hh := (show ((thr d L).loc cc0_scratch0 ↦{fullShare} fh : sProp 𝕄) ⊢ (hB).view.loc (thr d L) ↦{fullShare} fh from .rfl) $$ Hh
  ihave Hb := (show ((thr d L).loc cc0_scratch1 ↦{fullShare} fb : sProp 𝕄) ⊢ (bB).view.loc (thr d L) ↦{fullShare} fb from .rfl) $$ Hb
  ihave Hr := (show ((thr d L).loc cc0_scratch2 ↦{fullShare} fr : sProp 𝕄) ⊢ (rB).view.loc (thr d L) ↦{fullShare} fr from .rfl) $$ Hr
  ihave Hc := (show ((thr d L).loc cc0_scratch3 ↦{fullShare} fc : sProp 𝕄) ⊢ (cB).view.loc (thr d L) ↦{fullShare} fc from .rfl) $$ Hc
  sl_exec
  sl_for (inv1 d L) $$ [Hc]
  case region =>
    intro k u
    exact zero_trip d L k u
  · unfold inv1
    iexists fc; isplitr
    swap; · iexact Hc
    ipureintro
    intro j hj
    exact absurd hj (Nat.not_lt_zero _)
  iintro %_ HI
  unfold inv1
  icases HI with ⟨%f1, %hf1, Hc⟩
  obtain rfl : f1 = fun _ => (histZero : Elt F .f32) := funext fun j => hf1 j (show (j 0).val < 392 from (j 0).isLt)
  sl_exec
  ihave Hxs := (pointsTo_split_subset (q := qx) (f := m (xLoc d)) (S := Finset.univ) (Finset.subset_univ (xAllK).view.set)).1 $$ Hx
  icases Hxs with ⟨Hxs, Hxr⟩
  have hrs : (rB).view.set = Finset.univ := View.set_whole _
  have hhs : (hB).view.set = Finset.univ := View.set_whole _
  ihave Hr := (Entails.of_eq (show ((rB).view.loc (thr d L) ↦{fullShare} fr : sProp 𝕄) = (rB).view.loc (thr d L) ↦[(rB).view.set]{fullShare} fr by rw [hrs])) $$ Hr
  ihave Hh := (Entails.of_eq (show ((hB).view.loc (thr d L) ↦{fullShare} View.write (Elt F) (hB).view fh (tile_body.sl.dma0_1 m d L) Finset.univ : sProp 𝕄)
      = (hB).view.loc (thr d L) ↦[(hB).view.set]{fullShare} (headWords (m (tLoc d)) L : Buf (Elt F) ((hB).view.loc (thr d L))) by
      rw [hhs, show View.write (Elt F) (hB).view fh (tile_body.sl.dma0_1 m d L) Finset.univ = headWords (m (tLoc d)) L from
        (View.write_whole_univ _ _ _).trans (read_tHead L (m (tLoc d)))])) $$ Hh
  have hN : ∀ h : S100000x128.Gathers 0 S128x128, ∑ j, ((rB).slice (S128x128.rowRect h.axis' j) (S128x128.stride_rowRect h.axis' j)).view.dmaCredit
      = (rB).view.dmaCredit := by decide
  iapply (SparseCore.wp_indirectGatherLocal countersEmb 𝒱₀ (thr d L) none (hg := gathers_S100000x128_S128x128) (default : HIx 1)
      (rB).view.dmaCredit (hN _) (by decide) (inb_head m d L hpre)) $$ [Hxs Hr Hh HsemR]
  · isplitl [Hxs]; · iexact Hxs
    isplitl [Hr]; · iexact Hr
    isplitl [Hh]; · iexact Hh
    iexact HsemR
  iintro Hfl
  sl_exec
  iapply (Transfers.wp_waitLocalO countersEmb 𝒱₀ (thr d L) none (default : HIx 1) (rfl : (rB).view.dmaCredit = _)) $$ [Hfl HO]
  · isplitl [Hfl]; · iexact Hfl
    isplitl [HO]; · iexact HO
    iapply (Transfers.MayWaits.elim (SemLoc.dma cc0_scratch7.sem)) $$ Hmw
  iintro ⟨⟨Hr, Hxs, Hh⟩, HsemR, HO⟩
  ihave Hx := (pointsTo_split_subset (q := qx) (f := m (xLoc d)) (S := Finset.univ) (Finset.subset_univ (xAllK).view.set)).2 $$ [Hxs Hxr]; · isplitl [Hxs] <;> iassumption
  ihave Hr := (Entails.of_eq (show ((rB).view.loc (thr d L) ↦[(rB).view.set]{fullShare} _ : sProp 𝕄)
      = (rB).view.loc (thr d L) ↦{fullShare} (headRows (m (tLoc d)) (m (xLoc d)) L : Buf (Elt F) ((rB).view.loc (thr d L))) by
      rw [hrs]; exact congrArg (fun f => ((rB).view.loc (thr d L) ↦{fullShare} f : sProp 𝕄)) (gather_head d L _ _ _ _ _))) $$ Hr
  ihave Hh := (Entails.of_eq (show ((hB).view.loc (thr d L) ↦[(hB).view.set]{fullShare} _ : sProp 𝕄)
      = (hB).view.loc (thr d L) ↦{fullShare} _ by rw [hhs])) $$ Hh
  ihave Hhead := (Entails.of_eq (pts_headK (F := F) d L _).symm) $$ Hhead
  ihave Hhist := (Entails.of_eq (pts_histK (F := F) d L _).symm) $$ Hhist
  sl_exec
  ihave Hb := (Entails.of_eq (show ((bB).view.loc (thr d L) ↦{fullShare} View.write (Elt F) (bB).view fb (tile_body.sl.dma0 m d L) Finset.univ : sProp 𝕄)
      = (bB).view.loc (thr d L) ↦{fullShare} (bigWords (m (tLoc d)) L : Buf (Elt F) ((bB).view.loc (thr d L))) by
      rw [show View.write (Elt F) (bB).view fb (tile_body.sl.dma0 m d L) Finset.univ = bigWords (m (tLoc d)) L from
        (View.write_whole_univ _ _ _).trans (read_tBig L (m (tLoc d)))])) $$ Hb
  sl_for (inv2 m d L) $$ [Hc Hb]
  case region =>
    intro k u
    exact count_trip m d L k u
  · unfold inv2
    rw [histAcc_zero]
    isplitl [Hc]; · iexact Hc
    iexact Hb
  iintro %_ HI
  unfold inv2
  icases HI with ⟨Hc, Hb⟩
  rw [show Scf.trips k0_t2_loop.lb k0_t2_loop.ub k0_t2_loop.st = 784 by decide]
  sl_exec
  sl_step
  ihave Ht := (pointsTo_share (PosShare.mem_left_op_right qt)).2 $$ [Hbig' Hhd']
  · isplitl [Hbig']; · iexact Hbig'
    iexact Hhd'
  isplitl [Ht Hx Hhead Hhist]
  · isplitl [Ht]; · iexact Ht
    isplitl [Hx]; · iexact Hx
    isplitl [Hhead]
    · iapply (Entails.of_eq (head_written (F := F) d L (m (tLoc d)) (m (xLoc d)) _)); iexact Hhead
    · iapply (Entails.of_eq (hist_written (F := F) d L (m (tLoc d)) _)); iexact Hhist
  isplitl [Hh Hb Hr Hc Hbufs]
  · isplitl [Hh]; · iexists _; iexact Hh
    isplitl [Hb]; · iexists _; iexact Hb
    isplitl [Hr]; · iexists _; iexact Hr
    isplitl [Hc]; · iexists _; iexact Hc
    iexact Hbufs
  isplitl [HsemH HsemB HsemI HsemR HsemO Hsems]
  · isplitl [HsemH]; · iexact HsemH
    isplitl [HsemB]; · iexact HsemB
    isplitl [HsemI]; · iexact HsemI
    isplitl [HsemR]; · iexact HsemR
    isplitl [HsemO]; · iexact HsemO
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Bag
-- ==== Proof.Tasks.lean ====
/-
  The 32 tasks together: what the SparseCore call takes and gives back, cut per task — `text` and the table as shares, the
  two result arrays as the parts the tasks write — and the obligations the launch asks of one task and of the cutting.
-/
module

public import proofs.«01_k».proof.Proof.Tile

@[expose] public section

noncomputable section

namespace Cert.Proof.Bag

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "tV" => (Memref.whole main_arg0_scv : Memref sig Kind.scVector Space.hbm S204800 EltTy.i32)
local notation "xV" => (Memref.whole main_arg2_scv : Memref sig Kind.scVector Space.hbm S100000x128 EltTy.f32)
local notation "headV" => (Memref.whole main_v0_0_scv : Memref sig Kind.scVector Space.hbm S4096x128 EltTy.f32)
local notation "histV" => (Memref.whole main_v0_1_scv : Memref sig Kind.scVector Space.hbm S16x784x128 EltTy.f32)
local notation "hB" => (Memref.whole cc0_scratch0 : Memref sig Kind.scVector Space.vmem S128 EltTy.i32)
local notation "bB" => (Memref.whole cc0_scratch1 : Memref sig Kind.scVector Space.vmem S12544 EltTy.i32)
local notation "rB" => (Memref.whole cc0_scratch2 : Memref sig Kind.scVector Space.vmem S128x128 EltTy.f32)
local notation "cB" => (Memref.whole cc0_scratch3 : Memref sig Kind.scVector Space.vmem S392x128 EltTy.f32)

/-! ## The parts of the result arrays -/

/-- The task of SparseCore `c`, tile `s`. -/
abbrev task (p : Fin 2 × Fin 16) : grid0.Coords := coordsV p.1 p.2

theorem mem_headSet (L : grid0.Coords) (j : S4096x128.Idx) :
    j ∈ headSet L ↔ 256 * (L 1).val + 128 * (L 0).val ≤ (j 0).val ∧ (j 0).val < 256 * (L 1).val + 128 * (L 0).val + 128 := by
  rw [show headSet L = (Rect.unit (s := S4096x128) (k0_off11 L) S128x128.size (k0_off11_inb L)).set from
    ((View.set_slice (View.whole (main_v0_0_scv : Ref sig .scVector)) _).trans Finset.map_refl), Rect.mem_set_unit]
  refine Fin.forall_fin_two.trans ?_
  have h0 : (k0_off11 L) 0 = 256 * (L 1).val + 128 * (L 0).val := by rw [k0_off11_eq]; rfl
  have h1 : (k0_off11 L) 1 = 0 := by rw [k0_off11_eq]; rfl
  have hj : (j 1).val < 128 := (j 1).isLt
  rw [h0, h1]
  show (_ ∧ (j 0).val < _ + 128) ∧ (0 ≤ (j 1).val ∧ (j 1).val < 0 + 128) ↔ _
  constructor
  · exact fun h => h.1
  · exact fun h => ⟨h, Nat.zero_le _, by omega⟩

theorem mem_histSet (L : grid0.Coords) (j : S16x784x128.Idx) :
    j ∈ histSet L ↔ (j 0).val = (L 1).val ∧ 392 * (L 0).val ≤ (j 1).val ∧ (j 1).val < 392 * (L 0).val + 392 := by
  rw [show histSet L = (Rect.unit (s := S16x784x128) (k0_off13 L) S1x392x128.size (k0_off13_inb L)).set from
    (View.set_reshape _ _).trans ((View.set_slice (View.whole (main_v0_1_scv : Ref sig .scVector)) _).trans Finset.map_refl), Rect.mem_set_unit]
  have h0 : (k0_off13 L) 0 = (L 1).val := by rw [k0_off13_eq]; rfl
  have h1 : (k0_off13 L) 1 = 392 * (L 0).val := by rw [k0_off13_eq]; rfl
  have h2 : (k0_off13 L) 2 = 0 := by rw [k0_off13_eq]; rfl
  have hj : (j 2).val < 128 := (j 2).isLt
  constructor
  · intro h
    have a0 := h 0
    have a1 := h 1
    rw [h0] at a0
    rw [h1] at a1
    have a0' : (j 0).val < (L 1).val + 1 := a0.2
    exact ⟨by have := a0.1; omega, a1.1, a1.2⟩
  · rintro ⟨e, l, u⟩ a
    match a with
    | 0 => rw [h0]; exact ⟨e.ge, by show (j 0).val < _ + 1; omega⟩
    | 1 => rw [h1]; exact ⟨l, u⟩
    | 2 => rw [h2]; exact ⟨Nat.zero_le _, by show (j 2).val < 0 + 128; omega⟩

theorem task_zero (p : Fin 2 × Fin 16) : ((task p) 0).val = p.1.val := rfl
theorem task_one (p : Fin 2 × Fin 16) : ((task p) 1).val = p.2.val := rfl

/-- Different tiles' head parts are disjoint. -/
theorem head_disjoint : ∀ p ∈ (Finset.univ : Finset (Fin 2 × Fin 16)), ∀ q ∈ (Finset.univ : Finset (Fin 2 × Fin 16)), p ≠ q → Disjoint (headSet (task p)) (headSet (task q)) := by
  intro p _ q _ h
  rw [Finset.disjoint_left]
  intro j hp hq
  rw [mem_headSet, task_zero, task_one] at hp hq
  have h1 := p.1.isLt
  have h2 := q.1.isLt
  exact h (Prod.ext (Fin.ext (by omega)) (Fin.ext (by omega)))

/-- The tiles' head parts cover the head rows. -/
theorem head_cover : (Finset.univ : Finset (Fin 2 × Fin 16)).biUnion (fun p => headSet (task p)) = Finset.univ := by
  ext j
  simp only [Finset.mem_biUnion, Finset.mem_univ, true_and, iff_true]
  have hj : (j 0).val < 4096 := (j 0).isLt
  refine ⟨(⟨(j 0).val / 128 % 2, by omega⟩, ⟨(j 0).val / 256, by omega⟩), ?_⟩
  rw [mem_headSet, task_zero, task_one]
  simp only []
  omega

/-- Different tiles' histogram parts are disjoint. -/
theorem hist_disjoint : ∀ p ∈ (Finset.univ : Finset (Fin 2 × Fin 16)), ∀ q ∈ (Finset.univ : Finset (Fin 2 × Fin 16)), p ≠ q → Disjoint (histSet (task p)) (histSet (task q)) := by
  intro p _ q _ h
  rw [Finset.disjoint_left]
  intro j hp hq
  rw [mem_histSet, task_zero, task_one] at hp hq
  exact h (Prod.ext (Fin.ext (by omega)) (Fin.ext (by omega)))

/-- The tiles' histogram parts cover the histograms. -/
theorem hist_cover : (Finset.univ : Finset (Fin 2 × Fin 16)).biUnion (fun p => histSet (task p)) = Finset.univ := by
  ext j
  simp only [Finset.mem_biUnion, Finset.mem_univ, true_and, iff_true]
  have hj : (j 0).val < 16 := (j 0).isLt
  have hj1 : (j 1).val < 784 := (j 1).isLt
  refine ⟨(⟨(j 1).val / 392, by omega⟩, ⟨(j 0).val, hj⟩), ?_⟩
  rw [mem_histSet, task_zero, task_one]
  show (j 0).val = (j 0).val ∧ 392 * ((j 1).val / 392) ≤ (j 1).val ∧ (j 1).val < 392 * ((j 1).val / 392) + 392
  refine ⟨rfl, ?_, ?_⟩ <;> omega

/-! ## The arrays, cut among the tasks -/

/-- A task's share of an array every task reads. -/
def taskShare (c : Fin 2) (s : Fin 16) : PosShare TreeShare := pieceOf (pieceOf fullShare 2 (by norm_num) c) 16 (by norm_num) s

theorem pts_shares (ℓ : Loc nD τ sig) (f : Buf (Elt F) ℓ) :
    (ℓ ↦{fullShare} f : sProp 𝕄) = bigSep Finset.univ fun c : Fin 2 => bigSep Finset.univ fun s : Fin 16 => ℓ ↦{taskShare c s} f :=
  (pointsTo_piecesOf Finset.univ f (by norm_num) fullShare).trans (bigSep_congr fun _ _ => pointsTo_piecesOf Finset.univ f (by norm_num) _)

theorem pts_head (d : Dev nD) (f : Buf (Elt F) (headLoc d)) :
    (headLoc d ↦{fullShare} f : sProp 𝕄) = bigSep Finset.univ fun c : Fin 2 => bigSep Finset.univ fun s : Fin 16 => headLoc d ↦[headSet (coordsV c s)]{fullShare} f := by
  rw [← bigSep_univ_prod (fun p : Fin 2 × Fin 16 => (headLoc d ↦[headSet (task p)]{fullShare} f : sProp 𝕄)),
    ← pointsTo_biUnion Finset.univ (ℓ := headLoc d) (fun p => headSet (task p)) head_disjoint, head_cover]

theorem pts_hist (d : Dev nD) (f : Buf (Elt F) (histLoc d)) :
    (histLoc d ↦{fullShare} f : sProp 𝕄) = bigSep Finset.univ fun c : Fin 2 => bigSep Finset.univ fun s : Fin 16 => histLoc d ↦[histSet (coordsV c s)]{fullShare} f := by
  rw [← bigSep_univ_prod (fun p : Fin 2 × Fin 16 => (histLoc d ↦[histSet (task p)]{fullShare} f : sProp 𝕄)),
    ← pointsTo_biUnion Finset.univ (ℓ := histLoc d) (fun p => histSet (task p)) hist_disjoint, hist_cover]

variable [FloatOps F]

/-- What a task takes. -/
abbrev taskPre (d : Dev nD) (c : Fin 2) (s : Fin 16) : sProp 𝕄 :=
  tileRes m d (coordsV c s) (taskShare c s) (taskShare c s) (m (headLoc d)) (m (histLoc d))
/-- What a task brings back. -/
abbrev taskPost (d : Dev nD) (c : Fin 2) (s : Fin 16) : sProp 𝕄 :=
  tileRes m d (coordsV c s) (taskShare c s) (taskShare c s) (headVal (m (tLoc d)) (m (xLoc d))) (histVal (m (tLoc d)))

/-- The call's four arrays are its tasks' parts of them. -/
theorem arrays_eq (d : Dev nD) (f : Buf (Elt F) (headLoc d)) (g : Buf (Elt F) (histLoc d)) :
    (bigSep Finset.univ fun c : Fin 2 => bigSep Finset.univ fun s : Fin 16 => tileRes m d (coordsV c s) (taskShare c s) (taskShare c s) f g : sProp 𝕄)
      = iprop((tLoc d ↦{fullShare} m (tLoc d)) ∗ (xLoc d ↦{fullShare} m (xLoc d)) ∗ (headLoc d ↦{fullShare} f) ∗ (histLoc d ↦{fullShare} g)) := by
  simp only [tileRes, bigSep_sep']
  rw [pts_shares (tLoc d), pts_shares (xLoc d), pts_head, pts_hist]

/-! ## What the handshakes carry -/

def P : (K (F := F)).Pay (nD := nD) (Val := Elt F) (Name := ℕ) (U := UU) where
  st := fun q d c => match q with | 0 => bigSep Finset.univ fun s : Fin 16 => taskPre m d (Fin.cast nCore_zero c) s
  dn := fun q d c => match q with | 0 => bigSep Finset.univ fun s : Fin 16 => taskPost m d (Fin.cast nCore_zero c) s
  go := fun q d c i => match q with | 0 => taskPre m d (Fin.cast nCore_zero c) (Fin.cast nSub_zero i)
  td := fun q d c i => match q with | 0 => taskPost m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun s : Fin 16 => taskPre m d (Fin.cast nCore_zero c) s))
  dn q d c := match q with
    | 0 => (inferInstance : BI.Storable (upEmb : UEmb _ 𝕄) (bigSep Finset.univ fun s : Fin 16 => taskPost m d (Fin.cast nCore_zero c) s))
  go q d c i := match q with
    | 0 => (inferInstance : BI.Storable (upEmb : UEmb _ 𝕄) (taskPre m d (Fin.cast nCore_zero c) (Fin.cast nSub_zero i)))
  td q d c i := match q with
    | 0 => (inferInstance : BI.Storable (upEmb : UEmb _ 𝕄) (taskPost m d (Fin.cast nCore_zero c) (Fin.cast nSub_zero i)))

/-! ## The obligations -/

theorem defs₀_vector (c : Fin τ.nSC) (s : Fin τ.nSub) :
    defs₀ (F := F) (.scVector c s) 0 ()
      = SparseCore.onTile hcore0 hsub0 (fun c s => cc0_k (coordsV c s)
          tV (Memref.isWhole_whole _) xV (Memref.isWhole_whole _) headV (Memref.isWhole_whole _) histV (Memref.isWhole_whole _)
          hB (Memref.isWhole_whole _) bB (Memref.isWhole_whole _) rB (Memref.isWhole_whole _) cB (Memref.isWhole_whole _)
          cc0_scratch4 cc0_scratch5 cc0_scratch6 cc0_scratch7 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's body meets its specification. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) (taskShare (Fin.cast nCore_zero c) (Fin.cast nSub_zero i)) (taskShare (Fin.cast nCore_zero c) (Fin.cast nSub_zero i))
    hF hpre O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core's share is its tiles' shares together. -/
theorem vecSplit : (K (F := F)).VecSplit' (P m) 0 := by
  intro d c
  show (bigSep Finset.univ fun s : Fin 16 => taskPre m d (Fin.cast nCore_zero c) s) ⊢ |={Set.univ}=> iprop(
      (bigSep Finset.univ fun i : Fin ((K (F := F)).nSub 0) => taskPre m d (Fin.cast nCore_zero c) (Fin.cast nSub_zero i))
      ∗ ((bigSep Finset.univ fun i : Fin ((K (F := F)).nSub 0) => taskPost m d (Fin.cast nCore_zero c) (Fin.cast nSub_zero i))
          -∗ bigSep Finset.univ fun s : Fin 16 => taskPost m d (Fin.cast nCore_zero c) s))
  rw [bigSep_tasks (F := F) (fun s => taskPre m d (Fin.cast nCore_zero c) s), bigSep_tasks (F := F) (fun s => taskPost m d (Fin.cast nCore_zero c) s)]
  iintro H; imodintro
  isplitl [H]; · iexact H
  iintro H
  iexact H

/-- What @main hands the call: the four arrays as it has them. -/
theorem st0_eq (d : Dev nD) : (bigSep Finset.univ fun c : Fin ((K (F := F)).nCore 0) => (P m).st 0 d c)
    = iprop((tLoc d ↦{fullShare} m (tLoc d)) ∗ (xLoc d ↦{fullShare} m (xLoc d)) ∗ (headLoc d ↦{fullShare} m (headLoc d)) ∗ (histLoc d ↦{fullShare} m (histLoc d))) :=
  (bigSep_cores (F := F) (fun c => bigSep Finset.univ fun s : Fin 16 => taskPre m d c s)).trans (arrays_eq m d _ _)

/-- What the call hands back: the same, the two result arrays at the tasks' values. -/
theorem dn0_eq (d : Dev nD) : (bigSep Finset.univ fun c : Fin ((K (F := F)).nCore 0) => (P m).dn 0 d c)
    = iprop((tLoc d ↦{fullShare} m (tLoc d)) ∗ (xLoc d ↦{fullShare} m (xLoc d)) ∗ (headLoc d ↦{fullShare} (headVal (m (tLoc d)) (m (xLoc d)) : Buf (Elt F) (headLoc d)))
        ∗ (histLoc d ↦{fullShare} (histVal (m (tLoc d)) : Buf (Elt F) (histLoc d)))) :=
  (bigSep_cores (F := F) (fun c => bigSep Finset.univ fun s : Fin 16 => taskPost m d c s)).trans (arrays_eq m d _ _)

end Cert.Proof.Bag
-- ==== Proof.Run.lean ====
/-
  The program's run: the SparseCore call, the first TensorCore region, the host's operations, the second region; what
  every array holds at the end.
-/
module

public import proofs.«01_k».proof.Proof.Segs
public import proofs.«01_k».proof.Proof.Tasks

@[expose] public section

noncomputable section

namespace Cert.Proof.Bag

open Cert.KernelIdeal Cert.KernelIdeal.Gen

open Idealize.ShloMosaic Idealize.ShloMosaic.ValueIdx
open Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (SparseCore.Cfg.HIx 1) (Elt F) ℕ UU ℕ

variable (m : (ℓ : Loc nD τ sig) → Buf (Elt F) ℓ) (ρ : Dev nD → PrngReg)

/-! ## The arrays' contents along the run -/

abbrev vRef (b : Ref sig .tc) : DevRef τ sig := Proc.devRef .tc b

/-- After the SparseCore call. -/
def V0 (d : Dev nD) : Valuation τ sig (Elt F) :=
  Function.update (Function.update (fun b => m (d, b)) (vRef main_v0_0) (headVal (m (tLoc d)) (m (xLoc d)) : S4096x128.Idx → Elt F .f32)) (vRef main_v0_1)
    (histVal (m (tLoc d)) : S16x784x128.Idx → Elt F .f32)

/-- The arrays as a region's proof reads them. -/
abbrev asVal (V : Dev nD → Valuation τ sig (Elt F)) : Val' (F := F) := fun c b => V c (vRef b)

/-- After the first region. -/
def V1 (d : Dev nD) : Valuation τ sig (Elt F) :=
  Function.update (V0 m d) (vRef main_v1) (projVal (asVal (V0 m) d main_arg2) (asVal (V0 m) d main_arg3))

/-- The host's operations between the regions. -/
def hops : List (HloOp τ sig (Elt F)) :=
  [StableHlo.unary main_arg2 main_v2 ((extractStridedSlice S1696x128 ![98304, 0] · slices_S100000x128_S1696x128_98304_0) : (⟨S100000x128, .f32⟩ : BufTy).Contents (Elt F) → (⟨S1696x128, .f32⟩ : BufTy).Contents (Elt F)),
   StableHlo.nullary main_c (constantI S_ 32 0#32),
   StableHlo.TRef.unary (.of main_c) (.of main_call0_v0 : StableHlo.TRef sig ⟨S_, .f32⟩) (sitofp .f32),
   StableHlo.TRef.binary (.of main_v2 : StableHlo.TRef sig ⟨S1696x128, .f32⟩) (.of main_call0_v0 : StableHlo.TRef sig ⟨S_, .f32⟩) (.of main_v3 : StableHlo.TRef sig ⟨S2048x128, .f32⟩)
     (fun x v => pad S2048x128 ![0, 0] ![352, 0] ![0, 0] x v pads_S1696x128_S2048x128_03520_000 h_S_),
   StableHlo.reshape main_arg4 main_v4 (rfl : (.f32 : EltTy) = .f32) shapeCasts_S10_S1x10]

/-- After them. -/
def V2 (d : Dev nD) : Valuation τ sig (Elt F) := StableHlo.after hops (V1 m d)

/-- After the second region: at the end. -/
def V3 (d : Dev nD) : Valuation τ sig (Elt F) := Function.update (V2 m d) (vRef main_v5) (finAt (asVal (V2 m)) d)

theorem vRef_ne {x y : Ref sig .tc} (h : x ≠ y) : vRef x ≠ vRef y := StableHlo.devRef_ne_of_ne h

/-- The SparseCore call changes only its two results. -/
theorem V0_of_ne (d : Dev nD) (b : Ref sig .tc) (h0 : b ≠ main_v0_0) (h1 : b ≠ main_v0_1) : V0 m d (vRef b) = m ((SparseCore.T d : Thread nD τ).loc b) := by
  unfold V0
  rw [Function.update_of_ne (vRef_ne h1), Function.update_of_ne (vRef_ne h0)]
/-- The call's first result is the gathered head rows. -/
theorem V0_head (d : Dev nD) : V0 m d (vRef main_v0_0) = (headVal (m (tLoc d)) (m (xLoc d)) : S4096x128.Idx → Elt F .f32) := by
  unfold V0
  rw [Function.update_of_ne (vRef_ne (by decide)), Function.update_self]
/-- The call's second result is the histograms. -/
theorem V0_hist (d : Dev nD) : V0 m d (vRef main_v0_1) = (histVal (m (tLoc d)) : S16x784x128.Idx → Elt F .f32) := by
  unfold V0
  rw [Function.update_self]
/-- The projection kernel changes only its result. -/
theorem V1_of_ne (d : Dev nD) (b : Ref sig .tc) (h : b ≠ main_v1) : V1 m d (vRef b) = V0 m d (vRef b) := by
  unfold V1; rw [Function.update_of_ne (vRef_ne h)]
/-- The projection kernel's result is the projected table. -/
theorem V1_proj (d : Dev nD) : V1 m d (vRef main_v1) = projVal (V0 m d (vRef main_arg2)) (V0 m d (vRef main_arg3)) := by
  unfold V1; rw [Function.update_self]
/-- The last kernel changes only its result. -/
theorem V3_of_ne (d : Dev nD) (b : Ref sig .tc) (h : b ≠ main_v5) : V3 m d (vRef b) = V2 m d (vRef b) := by
  unfold V3; rw [Function.update_of_ne (vRef_ne h)]
/-- The last kernel's result is the final value. -/
theorem V3_out (d : Dev nD) : V3 m d (vRef main_v5) = finAt (asVal (V2 m)) d := by
  unfold V3; rw [Function.update_self]

/-- The arrays the host's operations write. -/
def hopsOuts : List (Ref sig .tc) := [main_v2, main_c, main_call0_v0, main_v3, main_v4]

/-- The host's operations change only their results. -/
theorem V2_of_not_mem (d : Dev nD) (b : Ref sig .tc) (h : b ∉ hopsOuts) : V2 m d (vRef b) = V1 m d (vRef b) :=
  StableHlo.after_of_writes_sub (W := hopsOuts) hops (V1 m d) (StableHlo.forall_writes_sub_of_map rfl) h

/-- An argument ends as it began. -/
theorem V3_arg (d : Dev nD) (b : Ref sig .tc) (h : b ∉ hopsOuts) (h5 : b ≠ main_v5) (h1 : b ≠ main_v1) (h00 : b ≠ main_v0_0) (h01 : b ≠ main_v0_1) :
    V3 m d (vRef b) = m ((SparseCore.T d : Thread nD τ).loc b) := by
  rw [V3_of_ne m d b h5, V2_of_not_mem m d b h, V1_of_ne m d b h1, V0_of_ne m d b h00 h01]

/-! ## The arrays held -/

/-- The arrays that live through the whole program. -/
def ucRefs : Finset (DevRef τ sig) := (StableHlo.tcRefs τ sig).filter fun b => ¬ b.isScoped

theorem unscoped_held (d : Dev nD) (W : Valuation τ sig (Elt F)) :
    (unscopedBufs d (fun b => W (vRef b)) : sProp 𝕄) = StableHlo.held (d.tc : Thread nD τ) ucRefs W := by
  unfold unscopedBufs StableHlo.held ucRefs StableHlo.tcRefs
  rw [Finset.filter_map, bigSep_map]
  rfl

/-- The arrays the SparseCore call does not touch. -/
def otherRefs : Finset (Ref sig .tc) := {main_arg1, main_arg3, main_arg4, main_v1, main_v2, main_c, main_call0_v0, main_v3, main_v4, main_v5}

theorem unscoped_split (d : Dev nD) (W : (b : Ref sig .tc) → Buf (Elt F) ((d.tc : Thread nD τ).loc b)) :
    (unscopedBufs d W : sProp 𝕄) = iprop((tLoc d ↦{fullShare} W main_arg0) ∗ (xLoc d ↦{fullShare} W main_arg2) ∗ (headLoc d ↦{fullShare} W main_v0_0)
      ∗ (histLoc d ↦{fullShare} W main_v0_1) ∗ bigSep otherRefs fun b => (d.tc : Thread nD τ).loc b ↦{fullShare} W b) := by
  unfold unscopedBufs
  rw [show (Finset.univ.filter fun b : Ref sig .tc => ¬ b.isScoped) = insert main_arg0 (insert main_arg2 (insert main_v0_0 (insert main_v0_1 otherRefs))) by decide,
    SparseCore.bigSep_insert' (by decide), SparseCore.bigSep_insert' (by decide), SparseCore.bigSep_insert' (by decide), SparseCore.bigSep_insert' (by decide)]

/-- The arrays after the call, put back together. -/
theorem unscoped_V0 (d : Dev nD) :
    (unscopedBufs d (fun b => V0 m d (vRef b)) : sProp 𝕄) = iprop((tLoc d ↦{fullShare} m (tLoc d)) ∗ (xLoc d ↦{fullShare} m (xLoc d))
      ∗ (headLoc d ↦{fullShare} (headVal (m (tLoc d)) (m (xLoc d)) : Buf (Elt F) (headLoc d))) ∗ (histLoc d ↦{fullShare} (histVal (m (tLoc d)) : Buf (Elt F) (histLoc d)))
      ∗ bigSep otherRefs fun b => (d.tc : Thread nD τ).loc b ↦{fullShare} m ((d.tc : Thread nD τ).loc b)) := by
  rw [unscoped_split, V0_of_ne m d main_arg0 (by decide) (by decide), V0_of_ne m d main_arg2 (by decide) (by decide), V0_head, V0_hist]
  congr 4

/-! ## The launch element of the ghost state -/

/-- The tables no pipeline of this program has. -/
def noTabs : (p : Fin 2) → (pcfgs (F := F) p).Adm := fun p => (cfgs p).toPCfg_adm

/-- The pipelines' part of the ghost state. -/
abbrev EP : Emb UP (MT nD τ sig (SparseCore.Cfg.HIx 1) (Elt F) ℕ UU ℕ) := (Emb.inl : Emb UP (UP × Counters)).trans embR

theorem pcell_inj : Function.Injective (Pipeline.cellOf (nD := nD) (τ := τ) (Pipeline.pin (pcfgs (F := F)) noTabs)) := cellOf_inj

/-- The launch's element: the handshakes' part, the pipelines' part, no counter. -/
def u₀ : UU := (initOf (K (F := F)).hsCells (K (F := F)).hsToks,
  (initOf (Pipeline.cells (nD := nD) (τ := τ) (Pipeline.pin (pcfgs (F := F)) noTabs) pcell_inj)
    (Pipeline.launchToks (nD := nD) (τ := τ) (Pipeline.pin (pcfgs (F := F)) noTabs) pcell_inj), 1))

/-- What the launch deals a TensorCore for its two regions. -/
abbrev regionGhost (c : Dev nD) : sProp 𝕄 :=
  iprop((bigSep Finset.univ fun p : Fin 2 => Pipeline.cellsGhost (Pipeline.pin (pcfgs (F := F)) noTabs) EP p c)
    ∗ (bigSep Finset.univ fun p : Fin 2 => Pipeline.toksInit (Pipeline.pin (pcfgs (F := F)) noTabs) EP p c))

omit [FloatOps F] in
theorem bigSep_none {I : Type} (s : Finset I) : (bigSep s fun _ => iprop(emp)) = (iprop(emp) : sProp 𝕄) := bigSep_emp_const s

theorem launch_ghost : (ownU (u₀ (F := F)) : sProp 𝕄)
    ⊢ |={Set.univ}=> iprop(BI.own (EH (initOf (K (F := F)).hsCells (K (F := F)).hsToks)) ∗ (bigSep Finset.univ fun c : Dev nD => regionGhost (F := F) c)
        ∗ bigSep Finset.univ fun thr : Thread nD τ => bigSep Finset.univ fun q : Fin 1 => (P m).x q thr) := by
  unfold u₀
  iintro Hu
  ihave H := (ownU_pair (A := UH) (B := UP × Counters) _ _) $$ Hu
  icases H with ⟨HH, HR⟩
  ihave H := (own_pair_emb (A := UP) (B := Counters) embR _ _) $$ HR
  icases H with ⟨HP, -⟩
  imod (Pipeline.fund_ghost (Pipeline.pin (pcfgs (F := F)) noTabs) EP pcell_inj) $$ HP with ⟨Hg, Ht⟩
  imodintro
  isplitl [HH]; · iexact HH
  isplitl [Hg Ht]
  · rw [bigSep_sep']; isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## The program on the TensorCore -/

/-- Every array an operation names lives through the whole program. -/
theorem hops_bufs : ∀ op ∈ hops (F := F), op.bufs ⊆ ucRefs := by
  intro op h
  simp only [hops, List.mem_cons, List.not_mem_nil, or_false] at h
  rcases h with rfl | rfl | rfl | rfl | rfl
  · rw [StableHlo.unary_bufs]; decide
  · rw [StableHlo.nullary_bufs]; decide
  · show (StableHlo.unary main_c main_call0_v0 _ _ _).bufs ⊆ _; rw [StableHlo.unary_bufs]; decide
  · show (StableHlo.binary main_v2 main_call0_v0 main_v3 _ _ _ _).bufs ⊆ _; rw [StableHlo.binary_bufs]; decide
  · rw [StableHlo.reshape_bufs]; decide

theorem hops_fresh : ∀ op ∈ hops (F := F), op.fresh = ∅ := by
  intro op h
  simp only [hops, List.mem_cons, List.not_mem_nil, or_false] at h
  rcases h with rfl | rfl | rfl | rfl | rfl <;> rfl

/-- The program in the order the proof takes it. -/
theorem main_eq (d : Dev nD) : main (F := F) d = (do
    sc.run d 0
    SparseCore.liftProg (Prog.lift (.customCall (Pipeline.entry 0) ()))
    StableHlo.seq hops
    SparseCore.liftProg (Prog.lift (.customCall (Pipeline.entry 1) ()))) := by
  rfl

/-- The first region over the run's contents. -/
def projStep : Pipeline.RegionSeg (pcfgs (F := F)) noTabs (pdats noTabs (asVal (V0 m))) none defs₀ 𝒱₀ (K (F := F)).L (K (F := F)).lev 0 :=
  projSeg noTabs _ _ (asVal (V0 m)) (asVal (V1 m)) (V1_proj m) (V1_of_ne m)

/-- The second region over them. -/
def finStep : Pipeline.RegionSeg (pcfgs (F := F)) noTabs (pdats noTabs (asVal (V2 m))) none defs₀ 𝒱₀ (K (F := F)).L (K (F := F)).lev 1 :=
  finSeg noTabs _ _ (asVal (V2 m)) (asVal (V3 m)) (V3_out m) (V3_of_ne m)

theorem projStep_pre (d : Dev nD) : (projStep m).pre d = iprop(unscopedBufs d (asVal (V0 m) d) ∗ owesNone (F := F) d) := rfl
theorem projStep_post (d : Dev nD) : (projStep m).post d = iprop(unscopedBufs d (asVal (V1 m) d) ∗ owesNone (F := F) d) := rfl
theorem finStep_pre (d : Dev nD) : (finStep m).pre d = iprop(unscopedBufs d (asVal (V2 m) d) ∗ owesNone (F := F) d) := rfl
theorem finStep_post (d : Dev nD) : (finStep m).post d = iprop(unscopedBufs d (asVal (V3 m) d) ∗ owesNone (F := F) d) := rfl

/-- What the run leaves on a device: every array, at its last contents. -/
abbrev FIN (d : Dev nD) : sProp 𝕄 := unscopedBufs d (asVal (V3 m) d)

set_option backward.isDefEq.respectTransparency.types false in
/-- The whole program on device `d`'s TensorCore. -/
theorem hmain (κ : GSem nD τ sig → ℕ) (d : Dev nD) :
    iprop((K (F := F)).ctx EH (P m) κ ∗ (K (F := F)).tcSt EH d 0 ∗ (K (F := F)).tcRes m ρ d ∗ regionGhost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_split, main_eq, wp_bind]
  iintro ⟨#Hctx, Hst, ⟨Hb, ⟨Ht, Hx, Hhd, Hhs, Ho⟩, Hts, -⟩, ⟨Hg, Htk⟩⟩
  ihave #Hlev := (SparseCore.Cfg.ctx_levAts κ) $$ Hctx
  iapply ((K (F := F)).wp_run (D (F := F)) 𝒱 (EH := EH) (P := P m) κ d 0) $$ [Hst Ht Hx Hhd Hhs Ho Hb Hts Hg Htk]
  isplitr; · iexact Hctx
  isplitl [Hst]; · iexact Hst
  isplitl [Ht Hx Hhd Hhs]
  · rw [st0_eq]
    isplitl [Ht]; · iexact Ht
    isplitl [Hx]; · iexact Hx
    isplitl [Hhd] <;> iassumption
  iintro ⟨Hst, Hdn⟩
  ihave Hdn' := (Entails.of_eq (dn0_eq m d)) $$ Hdn
  icases Hdn' with ⟨Ht, Hx, Hhd, Hhs⟩
  ihave Hub := (Entails.of_eq (unscoped_V0 m d).symm) $$ [Ht Hx Hhd Hhs Ho]
  · isplitl [Ht]; · iexact Ht
    isplitl [Hx]; · iexact Hx
    isplitl [Hhd]; · iexact Hhd
    isplitl [Hhs] <;> iassumption
  unfold SparseCore.Cfg.tcSt
  icases Hst with ⟨⟨%W, %hW, HO⟩, Hst⟩
  rw [(K (F := F)).Otc_end d (show 1 ≤ ((0 : Fin 1) : ℕ) + 1 from le_rfl)]
  -- the first region
  rw [wp_bind]
  ihave Hg' := (Entails.of_eq (bigSep_univ_two fun p : Fin 2 => (Pipeline.cellsGhost (Pipeline.pin (pcfgs (F := F)) noTabs) EP p d : sProp 𝕄))) $$ Hg
  ihave Htk' := (Entails.of_eq (bigSep_univ_two fun p : Fin 2 => (Pipeline.toksInit (Pipeline.pin (pcfgs (F := F)) noTabs) EP p d : sProp 𝕄))) $$ Htk
  icases Hg' with ⟨Hg0, Hg1⟩
  icases Htk' with ⟨Ht0, Ht1⟩
  iapply ((K (F := F)).wp_liftProg (D (F := F)) 𝒱 (SparseCore.T d) Set.univ none (Prog.lift (.customCall (Pipeline.entry 0) ())) _)
  iapply (Pipeline.RegionSeg.wp (pcfgs (F := F)) noTabs (pdats noTabs (asVal (V0 m))) none pcell_inj EP defs₀ 𝒱₀ (K (F := F)).L (K (F := F)).lev
    (projStep m) d none (fun _ h => nomatch h) Prog.ret _)
  isplitr [Hub HO Hb Hg0 Ht0]
  swap
  · isplitl [Hb]; · iexact Hb
    isplitl [Hub HO]
    · rw [projStep_pre]
      isplitl [Hub]; · iexact Hub
      iexists W; isplitr; · ipureintro; exact hW
      iexact HO
    isplitr; · iexact Hlev
    isplitl [Hg0] <;> iassumption
  rw [projStep_post]
  iintro ⟨Hb, Hub, ⟨%W₁, %hW₁, HO⟩⟩
  rw [wp_ret]
  imodintro
  -- the host's operations
  ihave Hub := (Entails.of_eq (unscoped_held d (V1 m d))) $$ Hub
  iapply (StableHlo.wp_seq 𝒱 none Set.univ d ucRefs (fun _ => SparseCore.liftProg (Prog.lift (.customCall (Pipeline.entry 1) ()))) hops hops_bufs hops_fresh (V1 m d)) $$ [Hub Hb]
  · isplitl [Hb] <;> iassumption
  iintro ⟨Hb, Hub⟩
  rw [show StableHlo.after hops (V1 m d) = V2 m d from rfl]
  ihave Hub := (Entails.of_eq (unscoped_held d (V2 m d)).symm) $$ Hub
  -- the second region
  iapply ((K (F := F)).wp_liftProg (D (F := F)) 𝒱 (SparseCore.T d) Set.univ none (Prog.lift (.customCall (Pipeline.entry 1) ())) _)
  iapply (Pipeline.RegionSeg.wp (pcfgs (F := F)) noTabs (pdats noTabs (asVal (V2 m))) none pcell_inj EP defs₀ 𝒱₀ (K (F := F)).L (K (F := F)).lev
    (finStep m) d none (fun _ h => nomatch h) Prog.ret _)
  isplitr [Hub HO Hb Hg1 Ht1]
  swap
  · isplitl [Hb]; · iexact Hb
    isplitl [Hub HO]
    · rw [finStep_pre]
      isplitl [Hub]; · iexact Hub
      iexists W₁; isplitr; · ipureintro; exact hW₁
      iexact HO
    isplitr; · iexact Hlev
    isplitl [Hg1] <;> iassumption
  rw [finStep_post]
  iintro ⟨Hb, Hub, ⟨%W₂, %hW₂, HO⟩⟩
  rw [wp_ret]
  imodintro
  rw [← (K (F := F)).Otc_end d (le_refl 1)]
  isplitl [HO Hst]
  · isplitl [HO]
    · iexists W₂; isplitr; · ipureintro; exact hW₂
      iexact HO
    iexact Hst
  isplitl [Hub]; · iexact Hub
  isplitl [Hb] <;> iassumption

/-! ## The end -/

set_option maxRecDepth 16384 in
/-- An array held at some contents is at them in the memory. -/
theorem agree_at (d : Dev nD) (s' : Phys nD τ sig (Elt F)) (W : (b : Ref sig .tc) → Buf (Elt F) ((d.tc : Thread nD τ).loc b)) (b : Ref sig .tc) (hb : ¬ b.isScoped) :
    iprop(unscopedBufs d W ∗ SI s') ⊢ (⌜s'.mem.mem ((d.tc : Thread nD τ).loc b) = W b⌝ : sProp 𝕄) := by
  unfold unscopedBufs
  iintro ⟨Hb, HSI⟩
  ihave Hp := (show (bigSep (Finset.univ.filter fun b : Ref sig .tc => ¬ b.isScoped) fun b => ((d.tc : Thread nD τ).loc b ↦{fullShare} W b : sProp 𝕄))
      ⊢ ((d.tc : Thread nD τ).loc b ↦{fullShare} W b) from bigSep_elim (s := Finset.univ.filter fun b : Ref sig .tc => ¬ b.isScoped) (i := b) (Finset.mem_filter.mpr ⟨Finset.mem_univ _, hb⟩)) $$ Hb
  ihave H := (SI_pointsTo_agree (st := s') (ℓ := (d.tc : Thread nD τ).loc b) (I := Finset.univ) (q := fullShare) (f := W b)) $$ [HSI Hp]
  · isplitl [HSI] <;> iassumption
  icases H with %h
  ipureintro; exact funext fun i => h i (Finset.mem_univ i)

/-- Every array of device `d` is at its last contents. -/
def fq (d : Dev nD) (s' : Phys nD τ sig (Elt F)) : Prop := ∀ b : Ref sig .tc, ¬ b.isScoped → s'.mem.mem ((d.tc : Thread nD τ).loc b) = asVal (V3 m) d b

theorem hfin (d : Dev nD) (s' : Phys nD τ sig (Elt F)) : iprop(FIN m d ∗ SI s') ⊢ (⌜fq m d s'⌝ : sProp 𝕄) :=
  fun a ha b hb => agree_at d s' (asVal (V3 m) d) b hb a ha

/-- The run's end: every array at its last contents, every semaphore at zero. -/
def QC : PUnit × MemSt nD τ sig (Elt F) → Prop := fun r =>
  (∀ d : Dev nD, ∀ b : Ref sig .tc, ¬ b.isScoped → r.2.mem ((d.tc : Thread nD τ).loc b) = V3 m d (vRef b)) ∧ r.2.sem = fun _ => 0

/-- Every run of the program ends, with the buffers as `QC` says. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main regionGhost (FIN m) (u₀ (F := F)) (sep_elim_left.trans (launch_ghost m)) (hmain m ρ) (fq m) (hfin m) (QC m) (fun _ h hz => ⟨h, hz⟩)

end Cert.Proof.Bag
-- ==== Proof.Frames.lean ====
/-
  What the run says of the arguments and the semaphores, and what the first precondition says of the words of `text`.
-/
module

public import proofs.«01_k».proof.Proof.Run
public import proofs.«01_k».proof.Proof.Gen.Kernel
public import proofs.«01_k».proof.Proof.Gen.Pre_in_vocab
public import proofs.«01_k».proof.Proof.Gen.ReferenceIdeal.Run
public import Idealize.ShloMosaic.Adequacy
public import Idealize.ShloMosaic.Init
public import Idealize.ShloMosaic.PureOps.Ideal

@[expose] public section

noncomputable section

namespace Cert.Proof.Bag

open Idealize.ShloMosaic Idealize.ShloMosaic.TcCoe
open Idealize.SL.Sem

/-- A word between 0 and 100000, compared as signed words, is below 100000. -/
theorem word_lt (v : BitVec 32) (e : IntOp.andi (IntOp.cmpi .sge v 0#32) (IntOp.cmpi .slt v 100000#32) = 1#1) : v.toNat < 100000 := by
  have h : ((0#32).sle v && v.slt 100000#32) = true := by
    revert e
    show (BitVec.ofBool ((0#32).sle v) &&& BitVec.ofBool (v.slt 100000#32)) = 1#1 → _
    cases (0#32).sle v <;> cases v.slt 100000#32 <;> decide
  rw [Bool.and_eq_true, BitVec.sle_iff_toInt_le, BitVec.slt_iff_toInt_lt, show (0#32 : BitVec 32).toInt = 0 from rfl,
    show (100000#32 : BitVec 32).toInt = 100000 from rfl, BitVec.toInt_eq_toNat_cond] at h
  have := v.isLt
  split at h <;> omega

/-- The first precondition puts every word of `text` inside the table. -/
theorem ok_in_vocab {F : FTy → Type} [FloatOps F] (m : (ℓ : Loc Cert.KernelIdeal.nD Cert.KernelIdeal.τ Cert.KernelIdeal.sig) → Buf (Elt F) ℓ)
    (h : ∀ c : Dev Cert.KernelIdeal.nD, Cert.Pre_in_vocab.fn (F := F) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) = fun _ => 1#1) :
    PreOK m := fun d j => word_lt _ (congrFun (h d) j)

/-- The run's end, as the frame claims state it. -/
theorem args_of_end {F : FTy → Type} [FloatOps F] (m : (ℓ : Loc Cert.KernelIdeal.nD Cert.KernelIdeal.τ Cert.KernelIdeal.sig) → Buf (Elt F) ℓ)
    (r : PUnit × MemSt Cert.KernelIdeal.nD Cert.KernelIdeal.τ Cert.KernelIdeal.sig (Elt F)) (h : QC m r) (c : Dev Cert.KernelIdeal.nD) :
    r.2.mem (c, vRef Cert.KernelIdeal.main_arg0) = m (c, vRef Cert.KernelIdeal.main_arg0) ∧ r.2.mem (c, vRef Cert.KernelIdeal.main_arg1) = m (c, vRef Cert.KernelIdeal.main_arg1)
      ∧ r.2.mem (c, vRef Cert.KernelIdeal.main_arg2) = m (c, vRef Cert.KernelIdeal.main_arg2) ∧ r.2.mem (c, vRef Cert.KernelIdeal.main_arg3) = m (c, vRef Cert.KernelIdeal.main_arg3)
      ∧ r.2.mem (c, vRef Cert.KernelIdeal.main_arg4) = m (c, vRef Cert.KernelIdeal.main_arg4) := by
  have key (b : Ref Cert.KernelIdeal.sig .tc) (hs : ¬ b.isScoped) (h0 : b ∉ hopsOuts) (h1 : b ≠ Cert.KernelIdeal.main_v5) (h2 : b ≠ Cert.KernelIdeal.main_v1)
      (h3 : b ≠ Cert.KernelIdeal.main_v0_0) (h4 : b ≠ Cert.KernelIdeal.main_v0_1) : r.2.mem (c, vRef b) = m (c, vRef b) :=
    (h.1 c b hs).trans (V3_arg m c b h0 h1 h2 h3 h4)
  exact ⟨key _ (by decide) (by decide) (by decide) (by decide) (by decide) (by decide), key _ (by decide) (by decide) (by decide) (by decide) (by decide) (by decide),
    key _ (by decide) (by decide) (by decide) (by decide) (by decide) (by decide), key _ (by decide) (by decide) (by decide) (by decide) (by decide) (by decide),
    key _ (by decide) (by decide) (by decide) (by decide) (by decide) (by decide)⟩

/-- The two printings of the program name the same bodies. -/
theorem body_same (p : Proc Cert.Kernel.τ) (l : Fin 3) : Cert.Kernel.defs₀ (F := Bits) p l = Cert.KernelIdeal.defs₀ (F := Bits) p l := by
  match p, l with
  | .tc, 0 => rfl
  | .tc, 1 => rfl
  | .tc, 2 => rfl
  | .scScalar c, 0 => rfl
  | .scScalar c, 1 => rfl
  | .scScalar c, 2 => rfl
  | .scVector c s, 0 => rfl
  | .scVector c s, 1 => rfl
  | .scVector c s, 2 => rfl

/-- The two printings have one table of bodies. -/
theorem defs0_same : Cert.Kernel.defs₀ (F := Bits) = Cert.KernelIdeal.defs₀ (F := Bits) := funext fun p => funext fun l => body_same p l

/-- They have one body table. -/
theorem defs_same : Cert.Kernel.defs (F := Bits) = Cert.KernelIdeal.defs (F := Bits) :=
  congrArg (fun d => Cert.KernelIdeal.sc.defs (Pipeline.defs Cert.KernelIdeal.pcfgs d)) defs0_same

/-- The program at the machine's words: every run ends, the arguments unchanged, the semaphores at zero. -/
theorem frame_kernel : Cert.quiescent_Kernel := by
  intro m ρ hpre
  rw [defs_same]
  exact (θ_run Cert.KernelIdeal.defs _ _).mono (fun r h => ⟨fun c => args_of_end m r h c, h.2⟩) (run_main (F := Bits) m ρ (ok_in_vocab m hpre))

/-- The same of the program read over the extended reals. -/
theorem frame_ideal : Cert.quiescent_KernelIdeal := fun m ρ hpre =>
  (θ_run Cert.KernelIdeal.defs _ _).mono (fun r h => ⟨fun c => args_of_end m r h c, h.2⟩) (run_main (F := Ideal) m ρ (ok_in_vocab m hpre))

/-- The reference: every run ends, the arguments unchanged, the semaphores (it has none) at zero. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof.Bag
-- ==== Proof.Drawn.lean ====
/-
  What the second precondition says of the arguments: words inside the table, offsets that count up from zero, a table and
  weights of real numbers. And the frames under it.
-/
module

public import proofs.«01_k».proof.Proof.Frames
public import proofs.«01_k».proof.Proof.Gen.Pre_drawn
public import Idealize.ShloMosaic.Lib.ReduceAll

@[expose] public section

noncomputable section

namespace Cert.Proof.Bag

open Idealize.ShloMosaic Idealize.ShloMosaic.TcCoe
open Idealize.SL.Sem

/-- A number whose absolute value is below the pattern of the infinity is a real. -/
theorem real_of_abs_lt (x : EReal) (h : Ideal.cmp .olt (max x (-x)) (Ideal.ofBits .f32 0x7F800000#32) = 1#1) : ∃ r : ℝ, x = (r : EReal) := by
  have e : Ideal.ofBits .f32 0x7F800000#32 = ⊤ := by simp [Ideal.ofBits, Ideal.ieee]
  rw [e] at h
  induction x using EReal.rec with
  | bot => exact absurd h (by simp [Ideal.cmp])
  | top => exact absurd h (by simp [Ideal.cmp])
  | coe r => exact ⟨r, rfl⟩

/-- Equal, when the comparison says so. -/
theorem eq_of_cmpi {w : ℕ} (a b : BitVec w) (h : IntOp.cmpi .eq a b = 1#1) : a = b := by
  have h' : BitVec.ofBool (a == b) = 1#1 := h
  by_contra hne
  rw [beq_eq_false_iff_ne.mpr hne] at h'
  exact absurd h' (by decide)

/-- The second precondition, read back. -/
structure Drawn (a0 : IVec Cert.KernelIdeal.S204800 32) (a1 : IVec Cert.KernelIdeal.S4096 32) (a2 : FVec Ideal Cert.KernelIdeal.S100000x128 .f32)
    (a3 : FVec Ideal Cert.KernelIdeal.S10x128 .f32) : Prop where
  words : ∀ j, (a0 j).toNat < 100000
  offsets : ∀ j, a1 j = BitVec.ofNat 32 (j 0).val
  table : ∀ j, ∃ r : ℝ, a2 j = (r : EReal)
  weights : ∀ j, ∃ r : ℝ, a3 j = (r : EReal)

local instance : Subsingleton (Cert.Pre_drawn.S_).Idx := ⟨fun a b => funext fun i => i.elim0⟩

/-- When the second precondition holds of the arguments, they are as `Drawn` says. -/
theorem drawn_of (a0 : IVec Cert.KernelIdeal.S204800 32) (a1 : IVec Cert.KernelIdeal.S4096 32) (a2 : FVec Ideal Cert.KernelIdeal.S100000x128 .f32)
    (a3 : FVec Ideal Cert.KernelIdeal.S10x128 .f32) (a4 : FVec Ideal Cert.KernelIdeal.S10 .f32)
    (h : Cert.Pre_drawn.fn (F := Ideal) a0 a1 a2 a3 a4 = fun _ => 1#1) : Drawn a0 a1 a2 a3 := by
  have h0 := congrFun h (fun i => i.elim0)
  unfold Cert.Pre_drawn.fn Cert.Pre_drawn.fn_part1 at h0
  dsimp only at h0
  obtain ⟨h1, hw⟩ := IntOp.andi_eq_one.1 h0
  obtain ⟨h2, ht⟩ := IntOp.andi_eq_one.1 h1
  obtain ⟨hv, ho⟩ := IntOp.andi_eq_one.1 h2
  exact ⟨fun j => word_lt _ (Host.reduce_andi_all _ _ _ _ _ hv j), fun j => eq_of_cmpi _ _ (Host.reduce_andi_all _ _ _ _ _ ho j),
    fun j => real_of_abs_lt _ (Host.reduce_andi_all _ _ _ _ _ ht j), fun j => real_of_abs_lt _ (Host.reduce_andi_all _ _ _ _ _ hw j)⟩

/-- The same program under the second precondition: every run ends, the arguments unchanged, the semaphores at zero. -/
theorem frame_ideal_drawn : Cert.quiescent_KernelIdeal_pre_drawn := fun m ρ hpre =>
  (θ_run Cert.KernelIdeal.defs _ _).mono (fun r h => ⟨fun c => args_of_end m r h c, h.2⟩)
    (run_main (F := Ideal) m ρ fun d j => (drawn_of _ _ _ _ _ (hpre d)).words j)

/-- The reference under it, likewise. -/
theorem frame_reference_drawn : Cert.quiescent_ReferenceIdeal_pre_drawn := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof.Bag
-- ==== Proof.RefIndex.lean ====
/-
  The reference's indexing: which bag it gives each word of `text`, which update lands where in its two scatters, and which
  row of the table its gather reads.
-/
module

public import proofs.«01_k».proof.Proof.Drawn
public import proofs.«01_k».proof.Proof.Gen.ReferenceIdeal
public import Idealize.ShloMosaic.Lib.Pointwise
public import Idealize.ShloMosaic.Lib.IdealHost
public import Idealize.ShloMosaic.Lib.IndicatorCount
public import Idealize.ShloMosaic.Lib.Routing.OpsPair

@[expose] public section

noncomputable section

namespace Cert.Proof.Ref

open Cert.ReferenceIdeal Cert.ReferenceIdeal.Gen
open Idealize.ShloMosaic

/-- Update `(n, e)` of the row scatter lands at `(b, e')` when its index word is `b` and `e' = e`. -/
theorem row_lands (idx : IVec S204800x1 32) (n : Fin 204800) (e : Fin 128) (b : Fin 4096) (e' : Fin 128) :
    scatter_S4096x128_S204800x1_S204800x128_1_0_0_1.resultIdx? (ix2 n e) idx = some (ix2 b e') ↔ (idx (ix2 n 0)).toInt = (b.val : Int) ∧ e = e' := by
  rw [Routing.resultIdx?_eq_some]
  have s0 : scatter_S4096x128_S204800x1_S204800x128_1_0_0_1.start (ix2 n e) idx 0 = (idx (ix2 n 0)).toInt := by
    unfold ScatterDims.start
    rw [dif_pos (by decide)]
    refine congrArg (fun i => (idx i).toInt) (funext fun a => ?_)
    match a with
    | 0 => rfl
    | 1 => rfl
  have s1 : scatter_S4096x128_S204800x1_S204800x128_1_0_0_1.start (ix2 n e) idx 1 = 0 := by
    unfold ScatterDims.start
    rw [dif_neg (by decide)]
  have w0 : scatter_S4096x128_S204800x1_S204800x128_1_0_0_1.window (ix2 n e) 0 = 0 := by
    unfold ScatterDims.window
    rw [dif_neg (by decide)]
  have w1 : scatter_S4096x128_S204800x1_S204800x128_1_0_0_1.window (ix2 n e) 1 = e.val := by
    unfold ScatterDims.window
    rw [dif_pos (by decide)]
    rfl
  constructor
  · intro h
    have h0 := h 0
    have h1 := h 1
    rw [s0, w0] at h0
    rw [s1, w1] at h1
    exact ⟨by simpa using h0, Fin.ext (by simpa using h1)⟩
  · rintro ⟨h0, rfl⟩ a
    match a with
    | 0 => rw [s0, w0, h0]; simp
    | 1 => rw [s1, w1]; simp

/-- Update `n` of the counting scatter lands at `b` when its index word is `b`. -/
theorem one_lands (idx : IVec S204800x1 32) (n : Fin 204800) (b : Fin 4096) :
    scatter_S4096_S204800x1_S204800_n_0_0_1.resultIdx? (ix1 n) idx = some (ix1 b) ↔ (idx (ix2 n 0)).toInt = (b.val : Int) := by
  rw [Routing.resultIdx?_eq_some]
  have s0 : scatter_S4096_S204800x1_S204800_n_0_0_1.start (ix1 n) idx 0 = (idx (ix2 n 0)).toInt := by
    unfold ScatterDims.start
    rw [dif_pos (by decide)]
    refine congrArg (fun i => (idx i).toInt) (funext fun a => ?_)
    match a with
    | 0 => rfl
    | 1 => rfl
  have w0 : scatter_S4096_S204800x1_S204800_n_0_0_1.window (ix1 n) 0 = 0 := by
    unfold ScatterDims.window
    rw [dif_neg (by decide)]
  constructor
  · intro h
    have h0 := h 0
    rw [s0, w0] at h0
    simpa using h0
  · intro h0 a
    match a with
    | 0 => rw [s0, w0, h0]; simp

/-- The gather reads the row its index word names, when that is a row of the table. -/
theorem gather_apply (x : FVec Ideal S100000x128 .f32) (idx : IVec S204800x1 32) (n : Fin 204800) (e : Fin 128) (h : (idx (ix2 n 0)).toNat < 100000) :
    Host.gather gather_S100000x128_S204800x1_S204800x128_1_0_n_n_0_1_1128 x idx (ix2 n e) = x (ix2 ⟨(idx (ix2 n 0)).toNat, h⟩ e) := by
  refine congrArg x (funext fun a => Fin.ext ?_)
  show GatherDims.start _ _ _ a + GatherDims.batchCoord _ _ a + GatherDims.offCoord _ _ a = _
  have hi : (idx (ix2 n 0)).toInt.toNat = (idx (ix2 n 0)).toNat := by
    rw [BitVec.toInt_eq_toNat_cond, if_pos (by omega), Int.toNat_natCast]
  have s0 : gather_S100000x128_S204800x1_S204800x128_1_0_n_n_0_1_1128.start (ix2 n e) idx 0 = (idx (ix2 n 0)).toNat := by
    unfold GatherDims.start
    rw [dif_pos (by decide)]
    have hs : idx (gather_S100000x128_S204800x1_S204800x128_1_0_n_n_0_1_1128.siIdx (ix2 n e) ⟨List.idxOf (0 : Fin 2) [0], by decide⟩) = idx (ix2 n 0) := by
      refine congrArg idx (funext fun a => ?_)
      match a with
      | 0 => rfl
      | 1 => rfl
    refine (congrArg (fun b : BitVec 32 => min b.toInt.toNat (100000 - 1)) hs).trans ?_
    rw [hi]; omega
  have s1 : gather_S100000x128_S204800x1_S204800x128_1_0_n_n_0_1_1128.start (ix2 n e) idx 1 = 0 := by
    unfold GatherDims.start
    rw [dif_neg (by decide)]
  have bc (a : Fin 2) : gather_S100000x128_S204800x1_S204800x128_1_0_n_n_0_1_1128.batchCoord (ix2 n e) a = 0 := by
    unfold GatherDims.batchCoord
    rw [dif_neg (by simp [gather_S100000x128_S204800x1_S204800x128_1_0_n_n_0_1_1128])]
  have o0 : gather_S100000x128_S204800x1_S204800x128_1_0_n_n_0_1_1128.offCoord (ix2 n e) 0 = 0 := by
    unfold GatherDims.offCoord
    rw [dif_neg (by decide)]
  have o1 : gather_S100000x128_S204800x1_S204800x128_1_0_n_n_0_1_1128.offCoord (ix2 n e) 1 = e.val := by
    unfold GatherDims.offCoord
    rw [dif_pos (by decide)]
    rfl
  match a with
  | 0 => exact (by rw [s0, bc, o0]; rfl)
  | 1 => exact (by rw [s1, bc, o1]; simp)

end Cert.Proof.Ref
-- ==== Proof.Counts.lean ====
/-
  The histograms over the extended reals: each counts words, and the sixteen of a row of the second array count, together,
  how often a word of `text` from the 4097th on names a row of the table.
-/
module

public import proofs.«01_k».proof.Proof.Setup
public import Idealize.ShloMosaic.Lib.Pointwise
public import Idealize.ShloMosaic.Lib.IdealHost
public import Idealize.ShloMosaic.PureOps.Ideal

@[expose] public section

noncomputable section

namespace Cert.Proof.Bag

open Cert.KernelIdeal Cert.KernelIdeal.Gen
open Idealize.ShloMosaic
open scoped Classical

/-- One when a proposition holds, zero otherwise. -/
def ind (p : Prop) : ℕ := if p then 1 else 0

/-- Equivalent propositions have equal indicators. -/
theorem ind_congr {p q : Prop} (h : p ↔ q) : ind p = ind q := congrArg ind (propext h)

/-- A word counts at element `j` of a task's histogram. -/
def hit (L : grid0.Coords) (j : S392x128.Idx) (w : BitVec 32) : Prop :=
  inHalf L w ∧ (place L w).toNat = 128 * (j 0).val + (j 1).val

/-- The index a task computes for a word it counts is `j` exactly when the word counts at `j`. -/
theorem hit_iff (L : grid0.Coords) (v : Vec Ideal S16 .i32) (x : S16.Idx) (j : S392x128.Idx) :
    (k0_pay4 (F := Ideal) L v x = 1 ∧ ∀ a, (j a).val = (idxAt ![k0_pay6 (F := Ideal) L v, k0_pay7 (F := Ideal) L v] (k0_idx1_inb _ _ (chk_all L v)) x a).val)
      ↔ hit L j (v x) := by
  rw [mask_iff, hit]
  refine and_congr_right fun hin => ?_
  have e5 : (k0_pay5 (F := Ideal) L v x).toNat = (place L (v x)).toNat := by
    rw [pay5_eq, if_pos ((mask_iff L v x).mpr hin)]
  have hp := inHalf_lt hin
  have e0 : (idxAt (s := S392x128) ![k0_pay6 (F := Ideal) L v, k0_pay7 (F := Ideal) L v] (k0_idx1_inb _ _ (chk_all L v)) x 0).val = (place L (v x)).toNat / 128 := by
    rw [← e5]; exact pay6_toNat L v x
  have e1 : (idxAt (s := S392x128) ![k0_pay6 (F := Ideal) L v, k0_pay7 (F := Ideal) L v] (k0_idx1_inb _ _ (chk_all L v)) x 1).val = (place L (v x)).toNat % 128 := by
    rw [← e5]; exact pay7_toNat L v x
  have hj1 : (j 1).val < 128 := (j 1).isLt
  constructor
  · intro h
    have h0 := (h 0).trans e0
    have h1 := (h 1).trans e1
    omega
  · intro h a
    match a with
    | 0 => exact (show (j 0).val = (place L (v x)).toNat / 128 by omega).trans e0.symm
    | 1 => exact (show (j 1).val = (place L (v x)).toNat % 128 by omega).trans e1.symm

/-- The pattern of one. -/
theorem ones_apply (x : S16.Idx) : (k0_pay2 (F := Ideal) x : EReal) = 1 := Ideal.ofBits_one_f32

/-- A fold whose every step adds to the value at `j` adds them all. -/
theorem foldl_at {α : Type} {ι : Type} (st : (ι → EReal) → α → ι → EReal) (c : α → ℕ) (j : ι)
    (h : ∀ g k, st g k j = g j + (c k : EReal)) (l : List α) (g : ι → EReal) : l.foldl st g j = g j + ((l.map c).sum : ℕ) := by
  induction l generalizing g with
  | nil => simp
  | cons a l ih => rw [List.foldl_cons, ih, h, List.map_cons, List.sum_cons, Nat.cast_add, add_assoc]

/-- One trip adds, at each element, the number of its sixteen words that count there. -/
theorem histStep_apply (L : grid0.Coords) (v : Vec Ideal S16 .i32) (f : Vec Ideal S392x128 .f32) (j : S392x128.Idx) :
    (histStep L v f j : EReal) = f j + ((∑ k : Fin 16, ind (hit L j (v (ix1 k))) : ℕ) : EReal) := by
  rw [show (∑ k : Fin 16, ind (hit L j (v (ix1 k)))) = ((List.finRange 16).map fun k => ind (hit L j (v (ix1 k)))).sum from
    (Fin.sum_univ_def _)]
  unfold histStep storeIdx
  refine foldl_at (ι := S392x128.Idx) (α := Fin 16) _ (fun k => ind (hit L j (v (ix1 k)))) j (fun g k => ?_) (List.finRange 16) f
  have hx : (Shape.ofLane k : S16.Idx) = ix1 k := by
    funext b; match b with | 0 => rfl
  have hh := hit_iff L v (ix1 k) j
  dsimp only
  rw [← hx] at hh ⊢
  generalize (Shape.ofLane k : S16.Idx) = x at hh ⊢
  by_cases hm : k0_pay4 (F := Ideal) L v x = 1
  · rw [if_pos hm]
    by_cases hj : ∀ b, (j b).val = (idxAt (s := S392x128) ![k0_pay6 (F := Ideal) L v, k0_pay7 (F := Ideal) L v] (k0_idx1_inb _ _ (chk_all L v)) x b).val
    · have hit1 := hh.mp ⟨hm, hj⟩
      have ej : idxAt (s := S392x128) ![k0_pay6 (F := Ideal) L v, k0_pay7 (F := Ideal) L v] (k0_idx1_inb _ _ (chk_all L v)) x = j := funext fun b => Fin.ext (hj b).symm
      rw [if_pos hj, ind, if_pos hit1, if_pos rfl, Nat.cast_one, ej]
      exact congrArg (fun z : EReal => (g j : EReal) + z) (ones_apply x)
    · rw [if_neg hj, ind, if_neg (fun h => hj (hh.mpr h).2), Nat.cast_zero, add_zero]
  · rw [if_neg hm, ind, if_neg (fun h => hm (hh.mpr h).1), Nat.cast_zero, add_zero]

/-- A task's histogram after `n` trips: at each element the number of the first `16 n` words that count there. -/
theorem histAcc_apply (t : S204800.Idx → BitVec 32) (L : grid0.Coords) (n : ℕ) (j : S392x128.Idx) :
    (histAcc (F := Ideal) t L n j : EReal) = ((∑ i ∈ Finset.range (16 * n), ind (hit L j (textN t (12544 * (L 1).val + 4096 + i))) : ℕ) : EReal) := by
  induction n with
  | zero => exact (congrFun (histAcc_zero (F := Ideal) t L) j).trans (Ideal.ofBits_zero_f32.trans Nat.cast_zero.symm)
  | succ n ih =>
    have e : ∑ k : Fin 16, ind (hit L j (lanes (F := Ideal) t L n (ix1 k)))
        = ∑ i ∈ Finset.range 16, ind (hit L j (textN t (12544 * (L 1).val + 4096 + (16 * n + i)))) :=
      (Finset.sum_range fun i => ind (hit L j (textN t (12544 * (L 1).val + 4096 + (16 * n + i))))).symm
    refine (congrFun (histAcc_succ (F := Ideal) t L n) j).trans ((histStep_apply L _ _ j).trans ?_)
    rw [ih, e, Nat.mul_succ, Finset.sum_range_add, Nat.cast_add]

/-- How often, from the 4097th word on, `text` names row `v`. -/
def cnt (t : S204800.Idx → BitVec 32) (v : ℕ) : ℕ := ∑ i ∈ Finset.range 200704, ind ((textN t (4096 + i)).toNat = v)

/-- A word less than 100000 is in half `c` at place `128 r + l` exactly when it is `50176 c + 128 r + l`. -/
theorem place_iff (w : BitVec 32) (hw : w.toNat < 100000) (c r l : ℕ) (hc : c < 2) (hr : r < 392) (hl : l < 128) :
    ((0 ≤ (w - BitVec.ofNat 32 c * 50176#32).toInt ∧ (w - BitVec.ofNat 32 c * 50176#32).toInt < 50176)
      ∧ (w - BitVec.ofNat 32 c * 50176#32).toNat = 128 * r + l) ↔ w.toNat = 128 * (392 * c + r) + l := by
  have ep : (w - BitVec.ofNat 32 c * 50176#32).toNat = (2 ^ 32 - 50176 * c + w.toNat) % 2 ^ 32 := by
    rw [BitVec.toNat_sub, BitVec.toNat_mul, BitVec.toNat_ofNat, show (50176#32).toNat = 50176 from rfl]
    omega
  rw [BitVec.toInt_eq_toNat_cond, ep]
  generalize w.toNat = n at hw ⊢
  have hc' : c = 0 ∨ c = 1 := by omega
  rcases hc' with rfl | rfl <;> split <;> omega

/-- For a word inside the table, to count at an element is to name the element's row. -/
theorem hit_owner (s : Fin 16) (r : Fin 784) (l : Fin 128) (w : BitVec 32) (hw : w.toNat < 100000) :
    hit (coordsV ⟨r.val / 392, by have := r.isLt; show _ < 2; omega⟩ s) (ix2 ⟨r.val % 392, Nat.mod_lt _ (by norm_num)⟩ l) w ↔ w.toNat = 128 * r.val + l.val := by
  have hr := r.isLt
  have h := place_iff w hw (r.val / 392) (r.val % 392) l.val (by omega) (Nat.mod_lt _ (by norm_num)) l.isLt
  rw [Nat.div_add_mod] at h
  exact h

/-- Sums over consecutive stretches of one length are the sum over the whole. -/
theorem sum_stretches (a b : ℕ) (f : ℕ → ℕ) : ∑ s ∈ Finset.range a, ∑ i ∈ Finset.range b, f (b * s + i) = ∑ i ∈ Finset.range (b * a), f i := by
  induction a with
  | zero => simp
  | succ a ih => rw [Finset.sum_range_succ, ih, Nat.mul_succ, Finset.sum_range_add]

/-- The sum of the sixteen histograms at an element. -/
theorem counts_apply (t : S204800.Idx → BitVec 32) (ht : ∀ j, (t j).toNat < 100000) (y : S784x128.Idx) :
    (k2_pay2 (F := Ideal) (histVal t) y : EReal) = (cnt t (128 * (y 0).val + (y 1).val) : EReal) := by
  have e : (k2_pay2 (F := Ideal) (histVal t) y : EReal) = ∑ s : Fin 16, (histVal (F := Ideal) t (ix3 s (y 0) (y 1)) : EReal) := by
    pointwise [k2_pay2]
  rw [e]
  generalize y 0 = r
  generalize y 1 = l
  have hs (s : Fin 16) : (histVal (F := Ideal) t (ix3 s r l) : EReal)
      = ((∑ i ∈ Finset.range 12544, ind ((textN t (4096 + (12544 * s.val + i))).toNat = 128 * r.val + l.val) : ℕ) : EReal) := by
    refine (histAcc_apply t (coordsV ⟨r.val / 392, _⟩ s) 784 (ix2 ⟨r.val % 392, _⟩ l)).trans (congrArg Nat.cast (Finset.sum_congr rfl fun i _ => ?_))
    refine (congrArg (fun n => ind (hit (coordsV ⟨r.val / 392, _⟩ s) (ix2 ⟨r.val % 392, _⟩ l) (textN t n)))
      (show 12544 * s.val + 4096 + i = 4096 + (12544 * s.val + i) by ring)).trans ?_
    exact ind_congr (hit_owner s r l _ (ht _))
  rw [Finset.sum_congr rfl fun s _ => hs s, ← Nat.cast_sum, cnt,
    ← Finset.sum_range (n := 16) fun s => ∑ i ∈ Finset.range 12544, ind ((textN t (4096 + (12544 * s + i))).toNat = 128 * r.val + l.val),
    sum_stretches 16 12544 fun i => ind ((textN t (4096 + i)).toNat = 128 * r.val + l.val)]

end Cert.Proof.Bag
-- ==== Proof.Reals.lean ====
/-
  Sums of real numbers inside the extended reals, and the rearrangement the claim rests on: a sum over the table's rows
  weighted by how often each is named is the sum over the words that name them.
-/
module

public import proofs.«01_k».proof.Proof.Counts

@[expose] public section

noncomputable section

namespace Cert.Proof.Bag

open Cert.KernelIdeal Cert.KernelIdeal.Gen
open Idealize.ShloMosaic
open scoped Classical

/-- A finite sum of reals, taken before or after entering the extended reals. -/
theorem coe_sum {ι : Type*} (s : Finset ι) (f : ι → ℝ) : ((∑ i ∈ s, f i : ℝ) : EReal) = ∑ i ∈ s, (f i : EReal) := by
  induction s using Finset.induction_on with
  | empty => simp
  | insert a s ha ih => rw [Finset.sum_insert ha, Finset.sum_insert ha, EReal.coe_add, ih]

/-- A natural number enters the extended reals through the reals. -/
theorem coe_nat (n : ℕ) : (n : EReal) = ((n : ℝ) : EReal) := (EReal.coe_natCast (n := n)).symm

/-- Sums over consecutive stretches of one length are the sum over the whole. -/
theorem sum_tiles (a b o : ℕ) (f : ℕ → ℝ) :
    ∑ s : Fin a, ∑ i : Fin b, f (b * (o + s.val) + i.val) = ∑ n ∈ Finset.range (b * a), f (b * o + n) := by
  induction a with
  | zero => simp
  | succ a ih =>
    rw [Fin.sum_univ_castSucc, Nat.mul_succ, Finset.sum_range_add, ← ih, Finset.sum_range]
    refine congrArg (∑ s : Fin a, ∑ i : Fin b, f (b * (o + s.val) + i.val) + ·) (Finset.sum_congr rfl fun i _ => ?_)
    rw [Fin.val_last, Nat.mul_add, Nat.add_assoc]

/-- A weighted sum over the rows is the sum over the words. -/
theorem sum_cnt (t : S204800.Idx → BitVec 32) (ht : ∀ j, (t j).toNat < 100000) (f : ℕ → ℝ) :
    ∑ v ∈ Finset.range 100352, (cnt t v : ℝ) * f v = ∑ i ∈ Finset.range 200704, f (textN t (4096 + i)).toNat := by
  have e (v : ℕ) : (cnt t v : ℝ) * f v = ∑ i ∈ Finset.range 200704, (if (textN t (4096 + i)).toNat = v then f v else 0) := by
    rw [cnt, Nat.cast_sum, Finset.sum_mul]
    refine Finset.sum_congr rfl fun i _ => ?_
    unfold ind
    split <;> simp
  rw [Finset.sum_congr rfl fun v _ => e v, Finset.sum_comm]
  refine Finset.sum_congr rfl fun i _ => ?_
  have hi : (textN t (4096 + i)).toNat < 100000 := ht _
  rw [Finset.sum_ite_eq, if_pos (Finset.mem_range.mpr (by omega))]

/-- A stretch's sum and the value just before it. -/
theorem sum_before (g : ℕ → ℝ) (a n : ℕ) : ∑ i ∈ Finset.range n, g (a + 1 + i) + g a = ∑ i ∈ Finset.range (n + 1), g (a + i) := by
  rw [Finset.sum_range_succ' (fun i => g (a + i)) n, Nat.add_zero]
  refine congrArg (· + g a) (Finset.sum_congr rfl fun i _ => ?_)
  rw [Nat.add_assoc, Nat.add_comm 1 i]

/-- The sum over a bag's first word and over the rest. -/
theorem sum_bag (t : S204800.Idx → BitVec 32) (f : ℕ → ℝ) :
    ∑ i ∈ Finset.range 200704, f (textN t (4096 + i)).toNat + f (textN t 4095).toNat
      = ∑ n ∈ Finset.range 200705, f (textN t (4095 + n)).toNat :=
  sum_before (fun n => f (textN t n).toNat) 4095 200704

end Cert.Proof.Bag
-- ==== Proof.Reads.lean ====
/-
  What the TensorCore regions' values are, element by element, over the extended reals.
-/
module

public import proofs.«01_k».proof.Proof.FinRegion
public import proofs.«01_k».proof.Proof.ProjRegion
public import Idealize.ShloMosaic.Lib.Pointwise
public import Idealize.ShloMosaic.Lib.IdealHost
public import Idealize.ShloMosaic.PureOps.Ideal

@[expose] public section

noncomputable section

namespace Cert.Proof.Bag

open Cert.KernelIdeal Cert.KernelIdeal.Gen
open Idealize.ShloMosaic

/-- A row's projection. -/
theorem headProj_apply (w : Vec Ideal S10x128 .f32) (x : Vec Ideal S4096x128 .f32) (b : Fin 4096) (k : Fin 10) :
    (headProj w x (ix2 b k) : EReal) = ∑ e : Fin 128, (x (ix2 b e) : EReal) * (w (ix2 k e) : EReal) := by
  pointwise [headProj]

/-- A product of the weights with 128 rows. -/
theorem product_apply (w : Vec Ideal S10x128 .f32) (x : Vec Ideal S128x128 .f32) (k : Fin 10) (l : Fin 128) :
    (product w x (ix2 k l) : EReal) = ∑ e : Fin 128, (w (ix2 k e) : EReal) * (x (ix2 l e) : EReal) := by
  pointwise [product]

/-- The counted projections of 128 rows, summed. -/
theorem tailTerm_apply (w : Vec Ideal S10x128 .f32) (c : FVec Ideal S784x128 .f32) (x : Vec Ideal S128x128 .f32) (r : Fin 16) (k : Fin 10) :
    (tailTerm w c x r (ix1 k) : EReal) = ∑ l : Fin 128, (c (ix2 ⟨768 + r.val, by have := r.isLt; omega⟩ l) : EReal)
      * ∑ e : Fin 128, (w (ix2 k e) : EReal) * (x (ix2 l e) : EReal) := by
  pointwise [tailTerm]

/-- The sum over the sixteen groups. -/
theorem tailSum_apply (w : Vec Ideal S10x128 .f32) (c : FVec Ideal S784x128 .f32) (x : Fin 16 → Vec Ideal S128x128 .f32) (b : FVec Ideal S10 .f32)
    (n : ℕ) (h : n ≤ 16) (k : Fin 10) :
    (tailSum w c x b n h (ix1 k) : EReal) = (b (ix1 k) : EReal) + ∑ r : Fin n, (tailTerm w c (x (r.castLE h)) (r.castLE h) (ix1 k) : EReal) := by
  induction n with
  | zero => simp [tailSum]
  | succ n ih =>
    rw [Fin.sum_univ_castSucc, ← add_assoc]
    exact congrArg (fun z : EReal => z + (tailTerm w c (x ⟨n, h⟩) ⟨n, h⟩ (ix1 k) : EReal)) (ih (Nat.le_of_succ_le h))

/-- The last row. -/
theorem lastRow_apply (s : FVec Ideal S10 .f32) (p : FVec Ideal S4096x10 .f32) (k : Fin 10) :
    (lastRow s p (ix2 0 k) : EReal) = Ideal.div ((s (ix1 k) : EReal) + (p (ix2 4095 k) : EReal)) (Ideal.ofBits .f32 0x48440040#32) := by
  pointwise [lastRow]

/-- The result, from its parts. -/
theorem assembled_apply (p : FVec Ideal S4096x10 .f32) (l : FVec Ideal S1x10 .f32) (b : Vec Ideal S1x10 .f32) (i : Fin 4096) (k : Fin 10) :
    (assembled p l b (ix2 i k) : EReal) = (if i.val = 4095 then (l (ix2 0 k) : EReal) else (p (ix2 i k) : EReal)) + (b (ix2 0 k) : EReal) := by
  pointwise [assembled]
  congr 1
  rw [Scalar.select]
  have hi := i.isLt
  refine if_congr (Iff.trans ?_ (Iff.rfl)) rfl rfl
  show BitVec.ofBool (BitVec.ofNat 32 i.val == 4095#32) = 1 ↔ _
  constructor
  · intro h
    by_contra hne
    have : (BitVec.ofNat 32 i.val == 4095#32) = false := beq_eq_false_iff_ne.mpr fun e => hne (by
      have := congrArg BitVec.toNat e
      rw [BitVec.toNat_ofNat, Nat.mod_eq_of_lt (by omega)] at this
      exact this)
    rw [this] at h
    exact absurd h (by decide)
  · intro h
    rw [h]; rfl

/-- A sum over the first and last of three axes. -/
theorem sum_outer (h : S768x10x128.Reduces [0, 2] S10) (v : S768x10x128.Idx → EReal) (k : Fin 10) :
    Ideal.reduceAdd h v (ix1 k) = ∑ r : Fin 768, ∑ l : Fin 128, v (ix3 r k l) := by
  have hd (a : Fin 768) (b : Fin 10) (c : Fin 128) : h.drop (ix3 a b c) = ix1 k ↔ b = k := by
    constructor
    · intro e; exact Fin.ext (congrArg Fin.val (congrFun e 0))
    · rintro rfl; funext z; match z with | 0 => rfl
  unfold Ideal.reduceAdd
  rw [Finset.sum_filter, sum_idx3]
  refine Finset.sum_congr rfl fun a _ => ?_
  rw [Finset.sum_eq_single k]
  · exact Finset.sum_congr rfl fun c _ => if_pos ((hd a k c).mpr rfl)
  · intro b _ hb; exact Finset.sum_eq_zero fun c _ => if_neg fun e => hb ((hd a b c).mp e)
  · intro hk; exact absurd (Finset.mem_univ k) hk

/-- The counted projections of the table's first rows, summed. -/
theorem blockSum_apply (c : FVec Ideal S784x128 .f32) (p : Vec Ideal S768x10x128 .bf16) (k : Fin 10) :
    (blockSum c p (ix1 k) : EReal) = ∑ r : Fin 768, ∑ l : Fin 128, (c (ix2 ⟨r.val, by have := r.isLt; omega⟩ l) : EReal) * (p (ix3 r k l) : EReal) := by
  unfold blockSum
  refine (sum_outer reduces_S768x10x128_S10 _ k).trans (Finset.sum_congr rfl fun r _ => Finset.sum_congr rfl fun l _ => ?_)
  pointwise

/-- A projection the first region leaves, of row `128 r + l`. -/
theorem projVal_apply (x : Vec Ideal S100000x128 .f32) (w : Vec Ideal S10x128 .f32) (r : Fin 768) (k : Fin 10) (l : Fin 128) :
    (projVal x w (ix3 r k l) : EReal) = ∑ e : Fin 128, (w (ix2 k e) : EReal)
      * (x (ix2 ⟨128 * r.val + l.val, by have := r.isLt; have := l.isLt; omega⟩ e) : EReal) := by
  refine (product_apply w _ k l).trans (Finset.sum_congr rfl fun e _ => ?_)
  refine congrArg (fun n : Fin 100000 => (w (ix2 k e) : EReal) * (x (ix2 n e) : EReal)) (Fin.ext ?_)
  show 16384 * (r.val / 128) + (128 * (r.val % 128) + l.val) = 128 * r.val + l.val
  omega

end Cert.Proof.Bag
-- ==== Proof.Value.lean ====
/-
  The kernel's result over the extended reals, for real tables and weights and words inside the table: every row is the
  projection of the row its word names, and the last row is the mean of the last bag's projections; the bias is added.
-/
module

public import proofs.«01_k».proof.Proof.Reals
public import proofs.«01_k».proof.Proof.Reads
public import proofs.«01_k».proof.Proof.Drawn
public import proofs.«01_k».proof.Proof.Run

@[expose] public section

noncomputable section

namespace Cert.Proof.Bag

open Cert.KernelIdeal Cert.KernelIdeal.Gen
open Idealize.ShloMosaic

/-- The table's row `v`, as reals, and zeros beyond the table. -/
def rowR (x : S100000x128.Idx → EReal) (v : ℕ) (e : Fin 128) : ℝ := if h : v < 100000 then (x (ix2 ⟨v, h⟩ e)).toReal else 0

/-- The projection of row `v` on output `k`. -/
def projR (x : S100000x128.Idx → EReal) (w : S10x128.Idx → EReal) (k : Fin 10) (v : ℕ) : ℝ := ∑ e : Fin 128, (w (ix2 k e)).toReal * rowR x v e

/-- The result without its bias. -/
def wantR (t : S204800.Idx → BitVec 32) (x : S100000x128.Idx → EReal) (w : S10x128.Idx → EReal) (i : Fin 4096) (k : Fin 10) : ℝ :=
  if i.val = 4095 then (∑ n ∈ Finset.range 200705, projR x w k (textN t (4095 + n)).toNat) * (1 / 200705) else projR x w k (textN t i.val).toNat

section

variable {t : IVec S204800 32} {o : IVec S4096 32} {x : FVec Ideal S100000x128 .f32} {w : FVec Ideal S10x128 .f32} (D : Drawn t o x w)
include D

/-- A drawn weight is the real it reads as. -/
theorem weight_coe (k : Fin 10) (e : Fin 128) : (w (ix2 k e) : EReal) = ((w (ix2 k e) : EReal).toReal : EReal) := by
  obtain ⟨r, hr⟩ := D.weights (ix2 k e)
  rw [hr, EReal.toReal_coe]

/-- A drawn row of the table is its row of reals. -/
theorem row_coe (v : Fin 100000) (e : Fin 128) : (x (ix2 v e) : EReal) = (rowR x v.val e : EReal) := by
  obtain ⟨r, hr⟩ := D.table (ix2 v e)
  rw [rowR, dif_pos v.isLt]
  show x (ix2 v e) = (((x (ix2 v e) : EReal).toReal : ℝ) : EReal)
  rw [hr, EReal.toReal_coe]

/-- Every drawn word is below 100000. -/
theorem word_bound (n : ℕ) : (textN t n).toNat < 100000 := D.words _

/-- A row of reals projected. -/
theorem proj_coe (k : Fin 10) (v : ℕ) (y : Fin 128 → EReal) (h : ∀ e, y e = (rowR x v e : EReal)) :
    ∑ e : Fin 128, (w (ix2 k e) : EReal) * y e = (projR x w k v : EReal) := by
  rw [projR, coe_sum]
  exact Finset.sum_congr rfl fun e _ => by rw [h, weight_coe D, EReal.coe_mul]; rfl

/-- The rows' projections. -/
theorem head_value (i : Fin 4096) (k : Fin 10) : (headProj (F := Ideal) w (headVal t x) (ix2 i k) : EReal) = (projR x w k (textN t i.val).toNat : EReal) := by
  rw [headProj_apply, ← proj_coe D k _ (fun e => (headVal (F := Ideal) t x (ix2 i e) : EReal))]
  · exact Finset.sum_congr rfl fun e _ => mul_comm _ _
  · intro e
    refine (row_coe D ⟨(textN t i.val).toNat % 100000, _⟩ e).trans ?_
    exact congrArg (fun n => ((rowR x n e : ℝ) : EReal)) (Nat.mod_eq_of_lt (word_bound D i.val))

/-- The first region's projections, counted and summed. -/
theorem block_value (k : Fin 10) : (blockSum (F := Ideal) (k2_pay2 (histVal t)) (projVal x w) (ix1 k) : EReal)
    = ((∑ v ∈ Finset.range 98304, (cnt t v : ℝ) * projR x w k v : ℝ) : EReal) := by
  have e : ∑ v ∈ Finset.range 98304, (cnt t v : ℝ) * projR x w k v
      = ∑ r : Fin 768, ∑ l : Fin 128, (cnt t (128 * r.val + l.val) : ℝ) * projR x w k (128 * r.val + l.val) := by
    have h := sum_tiles 768 128 0 fun v => (cnt t v : ℝ) * projR x w k v
    simp only [Nat.zero_add, Nat.mul_zero] at h
    exact h.symm
  rw [blockSum_apply, e, coe_sum]
  refine Finset.sum_congr rfl fun r _ => ?_
  rw [coe_sum]
  refine Finset.sum_congr rfl fun l _ => ?_
  rw [EReal.coe_mul, projVal_apply, proj_coe D k (128 * r.val + l.val) _ (fun e => row_coe D _ e), counts_apply t D.words, coe_nat]
  rfl

/-- The last rows' projections, counted and summed: sixteen groups of rows, of which the table has the first 1696. -/
theorem tail_value (z : Vec Ideal S2048x128 .f32) (hz : ∀ (q : Fin 2048) (e : Fin 128), (z (ix2 q e) : EReal) = (rowR x (98304 + q.val) e : EReal))
    (b : FVec Ideal S10 .f32) (k : Fin 10) : (tailSum w (k2_pay2 (histVal t)) (tailRows z) b 16 le_rfl (ix1 k) : EReal)
    = (b (ix1 k) : EReal) + ((∑ n ∈ Finset.range 2048, (cnt t (98304 + n) : ℝ) * projR x w k (98304 + n) : ℝ) : EReal) := by
  have e : ∑ n ∈ Finset.range 2048, (cnt t (98304 + n) : ℝ) * projR x w k (98304 + n)
      = ∑ r : Fin 16, ∑ l : Fin 128, (cnt t (128 * (768 + r.val) + l.val) : ℝ) * projR x w k (128 * (768 + r.val) + l.val) :=
    (sum_tiles 16 128 768 fun v => (cnt t v : ℝ) * projR x w k v).symm
  rw [tailSum_apply, e, coe_sum]
  refine congrArg ((b (ix1 k) : EReal) + ·) (Finset.sum_congr rfl fun r _ => ?_)
  rw [coe_sum]
  refine (tailTerm_apply w _ _ _ k).trans (Finset.sum_congr rfl fun l _ => ?_)
  rw [EReal.coe_mul, proj_coe D k (128 * (768 + r.val) + l.val) _ (fun e => ?_), counts_apply t D.words, coe_nat]
  · rfl
  · refine (hz ⟨128 * r.val + l.val, by have := r.isLt; have := l.isLt; omega⟩ e).trans ?_
    exact congrArg (fun n => ((rowR x n e : ℝ) : EReal)) (show 98304 + (128 * r.val + l.val) = 128 * (768 + r.val) + l.val by ring)

omit D in
/-- The bag's size, as the kernel writes it. -/
theorem size_pattern : Ideal.ofBits .f32 0x48440040#32 = ((200705 : ℝ) : EReal) := by
  simp [Ideal.ofBits, Ideal.ieee]
  rw [← EReal.coe_mul]
  norm_num

/-- The last region's result. -/
theorem fin_value (z : Vec Ideal S2048x128 .f32) (hz : ∀ (q : Fin 2048) (e : Fin 128), (z (ix2 q e) : EReal) = (rowR x (98304 + q.val) e : EReal))
    (b : Vec Ideal S1x10 .f32) (i : Fin 4096) (k : Fin 10) :
    (finVal (histVal t) (projVal x w) z (headVal t x) w b (ix2 i k) : EReal) = (wantR t x w i k : EReal) + (b (ix2 0 k) : EReal) := by
  unfold finVal finOf
  rw [assembled_apply, head_value D i k, wantR]
  congr 1
  split
  · rw [lastRow_apply, tail_value D z hz, block_value D, head_value D, size_pattern, Ideal.div_coe (by norm_num), ← EReal.coe_add, ← EReal.coe_add, ← EReal.coe_mul]
    refine congrArg (fun r : ℝ => ((r * (1 / 200705) : ℝ) : EReal)) ?_
    have h1 := Finset.sum_range_add (fun v => (cnt t v : ℝ) * projR x w k v) 98304 2048
    rw [← h1, sum_cnt t D.words, ← sum_bag]
    rfl
  · rfl

end

/-! ## The arrays the last region reads -/

variable {F : FTy → Type} [FloatOps F] (m : (ℓ : Loc nD τ sig) → Buf (Elt F) ℓ)

/-- The table's last rows, with the rows of zeros after them. -/
def tailVal (x : FVec F S100000x128 .f32) : FVec F S2048x128 .f32 :=
  pad S2048x128 ![0, 0] ![352, 0] ![0, 0] (extractStridedSlice S1696x128 ![98304, 0] x slices_S100000x128_S1696x128_98304_0) (sitofp .f32 (constantI S_ 32 0#32))
    pads_S1696x128_S2048x128_03520_000 h_S_

/-- The padded tail of the table, as the last kernel gets it. -/
theorem V2_tail (d : Dev nD) : V2 m d (vRef main_v3) = tailVal (V1 m d (vRef main_arg2)) := by
  unfold V2 hops
  simp only [StableHlo.TRef.binary, StableHlo.TRef.unary, StableHlo.TRef.toBuf, StableHlo.TRef.ofBuf, cast_eq]
  after_results_simp <;> rfl

/-- The bias as one row, as the last kernel gets it. -/
theorem V2_bias (d : Dev nD) : V2 m d (vRef main_v4) = (shapeCast S1x10 (V1 m d (vRef main_arg4) : S10.Idx → Elt F .f32) shapeCasts_S10_S1x10 : S1x10.Idx → Elt F .f32) := by
  unfold V2 hops
  simp only [StableHlo.TRef.binary, StableHlo.TRef.unary, StableHlo.TRef.toBuf, StableHlo.TRef.ofBuf, cast_eq]
  after_results_simp <;> rfl

/-- What the run leaves in the result, as a value of the arguments. -/
theorem V3_value (d : Dev nD) : V3 m d (vRef main_v5)
    = (finVal (histVal (m (tLoc d))) (projVal (m (xLoc d)) (m ((SparseCore.T d : Thread nD τ).loc main_arg3))) (tailVal (m (xLoc d))) (headVal (m (tLoc d)) (m (xLoc d)))
        (m ((SparseCore.T d : Thread nD τ).loc main_arg3)) (shapeCast S1x10 (m ((SparseCore.T d : Thread nD τ).loc main_arg4) : S10.Idx → Elt F .f32) shapeCasts_S10_S1x10) : S4096x10.Idx → Elt F .f32) := by
  have e2 : V1 m d (vRef main_arg2) = m (xLoc d) := by
    rw [V1_of_ne m d _ (by decide), V0_of_ne m d _ (by decide) (by decide)]
  have e4 : V1 m d (vRef main_arg4) = m ((SparseCore.T d : Thread nD τ).loc main_arg4) := by
    rw [V1_of_ne m d _ (by decide), V0_of_ne m d _ (by decide) (by decide)]
  have f0 : V2 m d (vRef main_v0_1) = (histVal (m (tLoc d)) : S16x784x128.Idx → Elt F .f32) := by
    rw [V2_of_not_mem m d _ (by decide), V1_of_ne m d _ (by decide), V0_hist]
  have f1 : V2 m d (vRef main_v1) = projVal (m (xLoc d)) (m ((SparseCore.T d : Thread nD τ).loc main_arg3)) := by
    rw [V2_of_not_mem m d _ (by decide), V1_proj, V0_of_ne m d _ (by decide) (by decide), V0_of_ne m d _ (by decide) (by decide)]
  have f2 : V2 m d (vRef main_v0_0) = (headVal (m (tLoc d)) (m (xLoc d)) : S4096x128.Idx → Elt F .f32) := by
    rw [V2_of_not_mem m d _ (by decide), V1_of_ne m d _ (by decide), V0_head]
  have f3 : V2 m d (vRef main_arg3) = m ((SparseCore.T d : Thread nD τ).loc main_arg3) := by
    rw [V2_of_not_mem m d _ (by decide), V1_of_ne m d _ (by decide), V0_of_ne m d _ (by decide) (by decide)]
  rw [V3_out]
  show finVal (V2 m d (vRef main_v0_1)) (V2 m d (vRef main_v1)) (V2 m d (vRef main_v3)) (V2 m d (vRef main_v0_0)) (V2 m d (vRef main_arg3)) (V2 m d (vRef main_v4)) = _
  rw [f0, f1, f2, f3, V2_tail, V2_bias, e2, e4]

/-- The padded rows over the extended reals: the table's, then zeros. -/
theorem tail_rows {t : IVec S204800 32} {o : IVec S4096 32} {x : FVec Ideal S100000x128 .f32} {w : FVec Ideal S10x128 .f32} (D : Drawn t o x w)
    (q : Fin 2048) (e : Fin 128) : (tailVal x (ix2 q e) : EReal) = (rowR x (98304 + q.val) e : EReal) := by
  by_cases h : q.val < 1696
  · refine Eq.trans ?_ (row_coe D ⟨98304 + q.val, by omega⟩ e)
    pointwise [tailVal]
    exact dif_pos h
  · have hr : rowR x (98304 + q.val) e = 0 := dif_neg (by omega)
    rw [hr]
    pointwise [tailVal]
    rw [dif_neg h]
    show (((0#32 : BitVec 32).toInt : ℝ) : EReal) = ((0 : ℝ) : EReal)
    rw [show (0#32 : BitVec 32).toInt = 0 from rfl, Int.cast_zero]

/-- The kernel's result, over the extended reals. -/
theorem kernel_value (m : (ℓ : Loc nD τ sig) → Buf (Elt Ideal) ℓ) (d : Dev nD) (o : IVec S4096 32)
    (D : Drawn (m (tLoc d)) o (m (xLoc d)) (m ((SparseCore.T d : Thread nD τ).loc main_arg3))) (i : Fin 4096) (k : Fin 10) :
    ((V3 m d (vRef main_v5) : S4096x10.Idx → EReal) (ix2 i k) : EReal)
      = (wantR (m (tLoc d)) (m (xLoc d)) (m ((SparseCore.T d : Thread nD τ).loc main_arg3)) i k : EReal)
        + ((m ((SparseCore.T d : Thread nD τ).loc main_arg4) : S10.Idx → EReal) (ix1 k) : EReal) := by
  rw [V3_value]
  refine (fin_value D _ (tail_rows D) _ i k).trans (congrArg ((_ : EReal) + ·) ?_)
  pointwise

end Cert.Proof.Bag
-- ==== Proof.RefValue.lean ====
/-
  The reference's result over the extended reals, for drawn inputs: word `n` of `text` belongs to bag `min n 4095`, its
  row of the table is gathered whole, and each bag's mean is projected and biased.
-/
module

public import proofs.«01_k».proof.Proof.RefIndex
public import proofs.«01_k».proof.Proof.Value
public import Idealize.ShloMosaic.Lib.ReduceAll

@[expose] public section

noncomputable section

namespace Cert.Proof.Ref

open Cert.ReferenceIdeal Cert.ReferenceIdeal.Gen
open Idealize.ShloMosaic
open Cert.Proof.Bag (Drawn rowR projR wantR textN coe_sum)

/-- Each offset compared with each position of `text`: whether the bag has begun. -/
def begun (o : IVec S4096 32) : IVec S204800x4096 1 :=
  cmpi .sle (broadcastInDim S204800x4096 ![0, 1] bcast_S1x4096_S204800x4096_0_1 (broadcastInDim S1x4096 ![1] bcast_S4096_S1x4096_1 o))
    (broadcastInDim S204800x4096 ![0, 1] bcast_S204800x1_S204800x4096_0_1
      (broadcastInDim S204800x1 ![0] bcast_S204800_S204800x1_0 (iotaInDim S204800 32 0)))

/-- How many bags have begun at each position. -/
def begunCount (o : IVec S4096 32) : IVec S204800 32 :=
  Host.reduce IntOp.addi (extui 32 (begun o) natLt_1_32) (constantI S_ 32 0#32) reducesTo_S204800x4096_S204800_d1 h_S_

/-- The bag of each position. -/
def segIdx (o : IVec S4096 32) : IVec S204800x1 32 :=
  broadcastInDim S204800x1 ![0] bcast_S204800_S204800x1_0 (subi (begunCount o) (broadcastInDim S204800 ![] bcast_S_S204800 (constantI S_ 32 1#32)))

/-- The words, a negative one counted from the table's end. -/
def wordIdx (t : IVec S204800 32) : IVec S204800x1 32 :=
  broadcastInDim S204800x1 ![0] bcast_S204800_S204800x1_0
    (select (cmpi .slt t (broadcastInDim S204800 ![] bcast_S_S204800 (constantI S_ 32 0#32)))
      (addi t (broadcastInDim S204800 ![] bcast_S_S204800 (constantI S_ 32 100000#32))) t)

/-- Which words lie in the table. -/
def inside (t : IVec S204800 32) : IVec S204800x1 1 :=
  andi (cmpi .sge (wordIdx t) (broadcastInDim S204800x1 ![] bcast_S_S204800x1 (constantI S_ 32 0#32)))
    (cmpi .sle (wordIdx t) (broadcastInDim S204800x1 ![0, 1] bcast_S1x1_S204800x1_0_1 (broadcastInDim S1x1 ![1] bcast_S1_S1x1_1 (constantI S1 32 99999#32))))

/-- The rows the words name. -/
def taken (t : IVec S204800 32) (x : FVec Ideal S100000x128 .f32) : FVec Ideal S204800x128 .f32 :=
  select (broadcastInDim S204800x128 ![0] bcast_S204800_S204800x128_0
      (Host.reduce IntOp.andi (inside t) (constantI S_ 1 1#1) reducesTo_S204800x1_S204800_d1 h_S_))
    (Host.gather gather_S100000x128_S204800x1_S204800x128_1_0_n_n_0_1_1128 x (wordIdx t))
    (broadcastInDim S204800x128 ![] bcast_S_S204800x128 (constant S_ .f32 0x7FC00000#32))

/-- The rows of each bag, summed. -/
def sums (t : IVec S204800 32) (o : IVec S4096 32) (x : FVec Ideal S100000x128 .f32) : FVec Ideal S4096x128 .f32 :=
  Host.scatterAdd scatter_S4096x128_S204800x1_S204800x128_1_0_0_1 (broadcastInDim S4096x128 ![] bcast_S_S4096x128 (constant S_ .f32 0x00000000#32))
    (segIdx o) (taken t x)

/-- The size of each bag. -/
def sizes (o : IVec S4096 32) : FVec Ideal S4096 .f32 :=
  Host.scatterAdd scatter_S4096_S204800x1_S204800_n_0_0_1 (broadcastInDim S4096 ![] bcast_S_S4096 (constant S_ .f32 0x00000000#32))
    (segIdx o) (broadcastInDim S204800 ![] bcast_S_S204800 (constant S_ .f32 0x3F800000#32))

/-- The reference's result from the sums and the sizes of the bags. -/
def result (s : FVec Ideal S4096x128 .f32) (c : FVec Ideal S4096 .f32) (w : FVec Ideal S10x128 .f32) (b : FVec Ideal S10 .f32) : FVec Ideal S4096x10 .f32 :=
  addf (Host.dotGeneral dot_S4096x128_S128x10_S4096x10_1_0_0_1_n_n none (Host.divf s
      (broadcastInDim S4096x128 ![0, 1] bcast_S4096x1_S4096x128_0_1 (broadcastInDim S4096x1 ![0] bcast_S4096_S4096x1_0
        (maximumf c (broadcastInDim S4096 ![] bcast_S_S4096 (constant S_ .f32 0x3F800000#32))))))
      (transpose S128x10 [1, 0] w transposes_S10x128_S128x10_1_0))
    (broadcastInDim S4096x10 ![0, 1] bcast_S1x10_S4096x10_0_1 (broadcastInDim S1x10 ![1] bcast_S10_S1x10_1 b))

/-- The offsets up to `n`, counted. -/
theorem card_below (n m : ℕ) : (Finset.univ.filter fun b : Fin m => b.val ≤ n).card = min (n + 1) m := by
  rw [Finset.card_filter, Fin.sum_univ_eq_sum_range (fun i => if i ≤ n then 1 else 0) m, ← Finset.card_filter]
  have : (Finset.range m).filter (fun i => i ≤ n) = Finset.range (min (n + 1) m) := by
    ext i; simp only [Finset.mem_filter, Finset.mem_range]; omega
  rw [this, Finset.card_range]

/-- A bag has begun at a position when its offset, its own number, is at most the position. -/
theorem begun_apply (o : IVec S4096 32) (h : ∀ j, o j = BitVec.ofNat 32 (j 0).val) (n : Fin 204800) (b : Fin 4096) :
    begun o (ix2 n b) = 1#1 ↔ b.val ≤ n.val := by
  have e : begun o (ix2 n b) = IntOp.cmpi .sle (BitVec.ofNat 32 b.val) (BitVec.ofNat 32 n.val) := by
    rw [← show o (ix1 b) = BitVec.ofNat 32 b.val from h (ix1 b)]
    pointwise [begun]
  have hn := n.isLt
  have hb := b.isLt
  rw [e, WordCmp.cmpi_sle_eq, WordCmp.ofBool_decide_eq_one_iff, WordCmp.toInt_ofNat_of_lt (by omega), WordCmp.toInt_ofNat_of_lt (by omega)]
  omega

/-- At position `n`, bags `0..n` have begun. -/
theorem begunCount_apply (o : IVec S4096 32) (h : ∀ j, o j = BitVec.ofNat 32 (j 0).val) (n : Fin 204800) :
    begunCount o (ix1 n) = BitVec.ofNat 32 (min (n.val + 1) 4096) := by
  unfold begunCount
  rw [Host.reduce_eq_fold]
  refine (IndicatorCount.fold_addi_setWidth_eq_card (begun o) _).trans (congrArg (BitVec.ofNat 32) ?_)
  rw [← card_below, ← Finset.card_image_of_injective (f := fun b : Fin 4096 => (ix2 n b : S204800x4096.Idx)) _ (fun a b e => congrFun e 1)]
  refine congrArg Finset.card (Finset.ext fun j => ?_)
  rw [eq_ix2 j]
  generalize hp : j 0 = p
  generalize hq : j 1 = q
  simp only [Finset.mem_filter, Finset.mem_univ, true_and, Finset.mem_image]
  have hd : reducesTo_S204800x4096_S204800_d1.drop (ix2 p q) = ix1 n ↔ p = n := by
    constructor
    · intro e; exact Fin.ext (congrArg Fin.val (congrFun e 0))
    · rintro rfl; exact funext fun a => by match a with | 0 => rfl
  constructor
  · rintro ⟨e, hb⟩
    obtain rfl := hd.1 e
    exact ⟨q, (begun_apply o h _ q).1 hb, rfl⟩
  · rintro ⟨b, hb, e⟩
    obtain rfl : n = p := congrFun e 0
    obtain rfl : b = q := congrFun e 1
    exact ⟨hd.2 rfl, (begun_apply o h _ _).2 hb⟩

/-- Position `n` belongs to bag `min n 4095`. -/
theorem segIdx_apply (o : IVec S4096 32) (h : ∀ j, o j = BitVec.ofNat 32 (j 0).val) (n : Fin 204800) :
    (segIdx o (ix2 n 0)).toInt = ((min n.val 4095 : ℕ) : Int) := by
  have e : segIdx o (ix2 n 0) = IntOp.subi (begunCount o (ix1 n)) 1#32 := by pointwise [segIdx]
  rw [e, begunCount_apply o h]
  have e' : IntOp.subi (BitVec.ofNat 32 (min (n.val + 1) 4096)) 1#32 = BitVec.ofNat 32 (min n.val 4095) := by
    have : min (n.val + 1) 4096 = min n.val 4095 + 1 := by omega
    rw [this, BitVec.ofNat_add]
    exact BitVec.add_sub_cancel _ _
  rw [e', WordCmp.toInt_ofNat_of_lt (by omega)]

/-- A word of the table is read as it is. -/
theorem wordIdx_apply (t : IVec S204800 32) (h : ∀ j, (t j).toNat < 100000) (n : Fin 204800) : wordIdx t (ix2 n 0) = t (ix1 n) := by
  have e : wordIdx t (ix2 n 0) = Scalar.select (IntOp.cmpi .slt (t (ix1 n)) 0#32) (IntOp.addi (t (ix1 n)) 100000#32) (t (ix1 n)) := by
    pointwise [wordIdx]
  rw [e]
  exact Routing.wrap_of_lt _ _ (by have := h (ix1 n); omega)

/-- Every word lies in the table. -/
theorem inside_apply (t : IVec S204800 32) (h : ∀ j, (t j).toNat < 100000) (j : S204800x1.Idx) : inside t j = 1#1 := by
  have e (n : Fin 204800) : inside t (ix2 n 0) = IntOp.andi (IntOp.cmpi .sge (wordIdx t (ix2 n 0)) 0#32) (IntOp.cmpi .sle (wordIdx t (ix2 n 0)) 99999#32) := by
    pointwise [inside]
  obtain ⟨n, rfl⟩ : ∃ n : Fin 204800, j = ix2 n 0 :=
    ⟨j 0, (eq_ix2 j).trans (congrArg (ix2 (j 0)) (Subsingleton.elim (α := Fin 1) _ _))⟩
  have hb := h (ix1 n)
  rw [e, wordIdx_apply t h, WordCmp.cmpi_sge_eq, WordCmp.cmpi_sle_eq, WordCmp.andi_ofBool,
    WordCmp.toInt_eq_toNat_of_lt_half (x := t (ix1 n)) (by omega)]
  rw [WordCmp.ofBool_eq_one_iff, Bool.and_eq_true, decide_eq_true_eq, decide_eq_true_eq]
  exact ⟨Int.natCast_nonneg (t (ix1 n)).toNat, by have : ((99999#32 : BitVec 32).toInt) = 99999 := rfl; omega⟩

/-- A mask over the rows, read at one number. -/
theorem masked_apply (c : IVec S204800 1) (y : FVec Ideal S204800x128 .f32) (n : Fin 204800) (e : Fin 128) :
    select (broadcastInDim S204800x128 ![0] bcast_S204800_S204800x128_0 c) y
        (broadcastInDim S204800x128 ![] bcast_S_S204800x128 (constant (F := Ideal) S_ .f32 0x7FC00000#32)) (ix2 n e)
      = Scalar.select (c (ix1 n)) (y (ix2 n e)) (Ideal.ofBits .f32 0x7FC00000#32) := by
  pointwise

/-- The row word `n` names. -/
theorem taken_apply (t : IVec S204800 32) (x : FVec Ideal S100000x128 .f32) (h : ∀ j, (t j).toNat < 100000) (n : Fin 204800) (e : Fin 128) :
    taken t x (ix2 n e) = x (ix2 ⟨(t (ix1 n)).toNat, h (ix1 n)⟩ e) := by
  unfold taken
  rw [masked_apply, Host.reduce_andi_one _ _ _ _ _ rfl (inside_apply t h)]
  have hw := wordIdx_apply t h n
  refine (gather_apply x (wordIdx t) n e (by rw [hw]; exact h _)).trans ?_
  exact congrArg (fun v : Fin 100000 => x (ix2 v e)) (Fin.ext (congrArg BitVec.toNat hw))

/-- The sum of a bag: one term, or for the last bag the terms from its own number on. -/
theorem bag_total (g : ℕ → ℝ) {N L K : ℕ} (hN : N = L + K) (hK : 0 < K) (b : ℕ) (hb : b ≤ L) :
    ∑ n : Fin N, ((if min n.val L = b then g n.val else 0 : ℝ) : EReal) = ((if b = L then ∑ i ∈ Finset.range K, g (L + i) else g b : ℝ) : EReal) := by
  subst hN
  rw [← coe_sum, Fin.sum_univ_eq_sum_range (fun n => if min n L = b then g n else 0) (L + K)]
  refine congrArg Real.toEReal ?_
  by_cases h : b = L
  · subst h
    rw [if_pos rfl, Finset.sum_range_add, Finset.sum_eq_zero, zero_add]
    · exact Finset.sum_congr rfl fun i _ => if_pos (by omega)
    · intro n hn
      have := Finset.mem_range.1 hn
      exact if_neg (by omega)
  · rw [if_neg h, Finset.sum_eq_single b]
    · exact if_pos (by omega)
    · intro n _ hn
      exact if_neg (by omega)
    · intro hn
      exact absurd (Finset.mem_range.2 (by omega)) hn

/-- The word at a position of `text`. -/
theorem text_at (t : IVec S204800 32) (n : Fin 204800) : textN t n.val = t (ix1 n) :=
  congrArg t (funext fun a => by match a with | 0 => exact Fin.ext (Nat.mod_eq_of_lt n.isLt))

/-- The row scatter at `(b, e)`: the updates that land there. -/
theorem rows_scattered (i : IVec S204800x1 32) (y : FVec Ideal S204800x128 .f32) (b : Fin 4096) (e : Fin 128) :
    (Host.scatterAdd scatter_S4096x128_S204800x1_S204800x128_1_0_0_1
        (broadcastInDim S4096x128 ![] bcast_S_S4096x128 (constant (F := Ideal) S_ .f32 0x00000000#32)) i y (ix2 b e) : EReal)
      = ∑ n : Fin 204800, if (i (ix2 n 0)).toInt = (b.val : Int) then (y (ix2 n e) : EReal) else 0 := by
  refine (show _ = Ideal.ofBits .f32 0x00000000#32 + ∑ j ∈ Finset.univ.filter (fun j =>
    scatter_S4096x128_S204800x1_S204800x128_1_0_0_1.resultIdx? j i = some (ix2 b e)), (y j : EReal) from rfl).trans ?_
  rw [Ideal.ofBits_zero_f32, zero_add, Finset.sum_filter, sum_idx2]
  refine Finset.sum_congr rfl fun n _ => ?_
  rw [Finset.sum_eq_single e]
  · exact if_congr ((row_lands i n e b e).trans (and_iff_left rfl)) rfl rfl
  · intro e' _ hne
    exact if_neg fun hr => hne ((row_lands i n e' b e).1 hr).2
  · intro hn; exact absurd (Finset.mem_univ e) hn

/-- The counting scatter at `b`: the updates that land there. -/
theorem ones_scattered (i : IVec S204800x1 32) (y : FVec Ideal S204800 .f32) (b : Fin 4096) :
    (Host.scatterAdd scatter_S4096_S204800x1_S204800_n_0_0_1
        (broadcastInDim S4096 ![] bcast_S_S4096 (constant (F := Ideal) S_ .f32 0x00000000#32)) i y (ix1 b) : EReal)
      = ∑ n : Fin 204800, if (i (ix2 n 0)).toInt = (b.val : Int) then (y (ix1 n) : EReal) else 0 := by
  refine (show _ = Ideal.ofBits .f32 0x00000000#32 + ∑ j ∈ Finset.univ.filter (fun j =>
    scatter_S4096_S204800x1_S204800_n_0_0_1.resultIdx? j i = some (ix1 b)), (y j : EReal) from rfl).trans ?_
  rw [Ideal.ofBits_zero_f32, zero_add, Finset.sum_filter, sum_idx1]
  exact Finset.sum_congr rfl fun n _ => if_congr (one_lands i n b) rfl rfl

/-- One term of a bag's sum, with the bag's number read. -/
theorem term_coe (o : IVec S4096 32) (h : ∀ j, o j = BitVec.ofNat 32 (j 0).val) (n : Fin 204800) (b : Fin 4096) (y : EReal) (g : ℝ) (e : y = (g : EReal)) :
    (if (segIdx o (ix2 n 0)).toInt = (b.val : Int) then y else 0) = ((if min n.val 4095 = b.val then g else 0 : ℝ) : EReal) := by
  rw [segIdx_apply o h n, e, apply_ite Real.toEReal, EReal.coe_zero]
  exact if_congr Int.ofNat_inj rfl rfl

section

variable {t : IVec S204800 32} {o : IVec S4096 32} {x : FVec Ideal S100000x128 .f32} {w : FVec Ideal S10x128 .f32} (D : Drawn t o x w)
include D

/-- The row scatter at a bag. -/
theorem sums_apply (b : Fin 4096) (e : Fin 128) :
    (sums t o x (ix2 b e) : EReal)
      = ((if b.val = 4095 then ∑ i ∈ Finset.range 200705, rowR x (textN t (4095 + i)).toNat e else rowR x (textN t b.val).toNat e : ℝ) : EReal) := by
  have row (n : Fin 204800) : (taken t x (ix2 n e) : EReal) = (rowR x (textN t n.val).toNat e : EReal) := by
    rw [text_at, taken_apply t x D.words]
    exact Cert.Proof.Bag.row_coe D ⟨_, D.words (ix1 n)⟩ e
  have hb : b.val ≤ 4095 := Nat.le_of_lt_succ b.isLt
  refine (rows_scattered (segIdx o) (taken t x) b e).trans ((Finset.sum_congr rfl fun n _ => term_coe o D.offsets n b _ _ (row n)).trans ?_)
  exact bag_total (fun n => rowR x (textN t n).toNat e) (by norm_num) (by norm_num) b.val hb

/-- The counting scatter at a bag. -/
theorem sizes_apply (b : Fin 4096) : (sizes o (ix1 b) : EReal) = ((if b.val = 4095 then ∑ _i ∈ Finset.range 200705, (1 : ℝ) else 1 : ℝ) : EReal) := by
  have one (n : Fin 204800) : (broadcastInDim S204800 ![] bcast_S_S204800 (constant (F := Ideal) S_ .f32 0x3F800000#32) (ix1 n) : EReal) = ((1 : ℝ) : EReal) :=
    Ideal.ofBits_one_f32
  have hb : b.val ≤ 4095 := Nat.le_of_lt_succ b.isLt
  refine (ones_scattered (segIdx o) _ b).trans ((Finset.sum_congr rfl fun n _ => term_coe o D.offsets n b _ _ (one n)).trans ?_)
  exact bag_total (fun _ => 1) (by norm_num) (by norm_num) b.val hb

/-- A real mean of rows, projected. -/
theorem mean_coe (k : Fin 10) (c : ℝ) (y : Fin 128 → ℝ) :
    ∑ e : Fin 128, ((y e : EReal) * (c : EReal)) * (w (ix2 k e) : EReal) = (((∑ e : Fin 128, (w (ix2 k e) : EReal).toReal * y e) * c : ℝ) : EReal) := by
  rw [Finset.sum_mul, coe_sum]
  refine Finset.sum_congr rfl fun e _ => ?_
  rw [Cert.Proof.Bag.weight_coe D k e, EReal.toReal_coe, ← EReal.coe_mul, ← EReal.coe_mul]
  refine congrArg Real.toEReal ?_
  ring

omit D in
/-- The result read at a bag and an output. -/
theorem result_apply (s : FVec Ideal S4096x128 .f32) (c : FVec Ideal S4096 .f32) (w : FVec Ideal S10x128 .f32) (b : FVec Ideal S10 .f32) (i : Fin 4096) (k : Fin 10) :
    (result s c w b (ix2 i k) : EReal)
      = (∑ e : Fin 128, Ideal.div (s (ix2 i e)) (max (c (ix1 i) : EReal) (Ideal.ofBits .f32 0x3F800000#32)) * (w (ix2 k e) : EReal)) + (b (ix1 k) : EReal) := by
  pointwise [result]

/-- A bag of a real size, at least one, projected. -/
theorem bag_value (s : FVec Ideal S4096x128 .f32) (z : FVec Ideal S4096 .f32) (b : FVec Ideal S10 .f32) (i : Fin 4096) (k : Fin 10) (c : ℝ) (hc : 1 ≤ c)
    (y : Fin 128 → ℝ) (hz : (z (ix1 i) : EReal) = (c : EReal)) (hs : ∀ e, (s (ix2 i e) : EReal) = (y e : EReal)) :
    (result s z w b (ix2 i k) : EReal) = (((∑ e : Fin 128, (w (ix2 k e) : EReal).toReal * y e) * (1 / c) : ℝ) : EReal) + (b (ix1 k) : EReal) := by
  have hne : c ≠ 0 := by linarith
  have hm : max (z (ix1 i) : EReal) (Ideal.ofBits .f32 0x3F800000#32) = (c : EReal) := by
    rw [Ideal.ofBits_one_f32, hz]
    exact max_eq_left (by exact_mod_cast hc)
  rw [result_apply, hm, ← mean_coe D]
  refine congrArg (· + (b (ix1 k) : EReal)) (Finset.sum_congr rfl fun e _ => ?_)
  rw [Ideal.div_coe hne, hs]

/-- The reference's result: each bag's mean, projected, and the bias. -/
theorem result_value (b : FVec Ideal S10 .f32) (i : Fin 4096) (k : Fin 10) :
    (result (sums t o x) (sizes o) w b (ix2 i k) : EReal) = (wantR t x w i k : EReal) + (b (ix1 k) : EReal) := by
  have hz := sizes_apply D i
  have hs (e : Fin 128) := sums_apply D i e
  unfold wantR
  by_cases h : i.val = 4095
  · rw [if_pos h] at hz ⊢
    rw [Finset.sum_const, Finset.card_range, nsmul_eq_mul, mul_one] at hz
    rw [bag_value D (sums t o x) (sizes o) b i k _ (by norm_num) _ hz fun e => (hs e).trans (congrArg Real.toEReal (if_pos h))]
    refine congrArg (fun r : ℝ => (r : EReal) + (b (ix1 k) : EReal)) ?_
    refine congrArg₂ (· * ·) ?_ (by norm_num)
    unfold projR
    rw [Finset.sum_comm]
    exact Finset.sum_congr rfl fun e _ => Finset.mul_sum _ _ _
  · rw [if_neg h] at hz ⊢
    rw [bag_value D (sums t o x) (sizes o) b i k 1 le_rfl _ hz fun e => (hs e).trans (congrArg Real.toEReal (if_neg h))]
    rw [div_one, mul_one]
    rfl

end

end Cert.Proof.Ref
-- ==== Proof.Algebraic.lean ====
/-
  The two programs compute one value: the kernel's result and the reference's, entry by entry.
-/
module

public import proofs.«01_k».proof.Proof.RefValue
public import proofs.«01_k».proof.Proof.Frames

@[expose] public section

noncomputable section

namespace Cert.Proof

open Idealize.ShloMosaic Idealize.ShloMosaic.TcCoe
open Idealize.SL.Sem
open Cert.Proof.Bag Cert.Proof.Ref

/-- The reference's run, with its result in the named parts. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v27)
            = result (sums (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2)))
              (sizes (m ((c.tc : Thread Cert.ReferenceIdeal.nD Cert.ReferenceIdeal.τ).loc Cert.ReferenceIdeal.main_arg1)))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  Cert.ReferenceIdeal.Value.run (F := Ideal) m g

/-- The kernel's result is the reference's, for drawn inputs. -/
theorem values_agree (m : (ℓ : Loc Cert.KernelIdeal.nD Cert.KernelIdeal.τ Cert.KernelIdeal.sig) → Buf (Elt Ideal) ℓ) (d : Dev Cert.KernelIdeal.nD)
    (o : IVec Cert.KernelIdeal.S4096 32) (D : Drawn (m (tLoc d)) o (m (xLoc d)) (m ((SparseCore.T d : Thread Cert.KernelIdeal.nD Cert.KernelIdeal.τ).loc Cert.KernelIdeal.main_arg3))) :
    result (sums (m (tLoc d)) o (m (xLoc d))) (sizes o) (m ((SparseCore.T d : Thread Cert.KernelIdeal.nD Cert.KernelIdeal.τ).loc Cert.KernelIdeal.main_arg3))
        (m ((SparseCore.T d : Thread Cert.KernelIdeal.nD Cert.KernelIdeal.τ).loc Cert.KernelIdeal.main_arg4))
      = V3 m d (vRef Cert.KernelIdeal.main_v5) := by
  refine funext fun j => ?_
  obtain ⟨i, k, rfl⟩ : ∃ (i : Fin 4096) (k : Fin 10), j = ix2 i k := ⟨j 0, j 1, eq_ix2 j⟩
  exact (result_value D _ i k).trans (kernel_value m d o D i k).symm

/-- For drawn inputs both programs' runs end with one result, their arguments unchanged. -/
theorem algebraic : Cert.algebraic_KernelIdeal_ReferenceIdeal_pre_drawn := by
  intro m g m' g' hpre hargs
  have hD (c : Dev Cert.KernelIdeal.nD) := drawn_of _ _ _ _ _ (hpre c)
  refine ⟨fun c => V3 m c (vRef Cert.KernelIdeal.main_v5), ?_, ?_⟩
  · exact (θ_run Cert.KernelIdeal.defs _ _).mono (fun r h c => ⟨h.1 c Cert.KernelIdeal.main_v5 (by decide), args_of_end m r h c⟩)
      (run_main (F := Ideal) m g fun d j => (hD d).words j)
  · refine (θ_run Cert.ReferenceIdeal.defs _ _).mono (fun r h c => ⟨(h c).1.trans ?_, (h c).2⟩) (reference_run m' g')
    obtain ⟨e0, e1, e2, e3, e4⟩ := hargs c
    rw [e0, e1, e2, e3, e4]
    exact values_agree m c _ (hD c)

end Cert.Proof
-- ==== Proof.lean ====
/-
  The proof of `Cert.Claim` (Defs.lean). The program's run — the SparseCore call, the two TensorCore regions and the host's
  operations between them — is Proof/Run.lean; the frames read off it are Proof/Frames.lean and Proof/Drawn.lean. The kernel's
  value is Proof/Value.lean, the reference's Proof/RefValue.lean, and that they are one is Proof/Algebraic.lean.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_vocab
public import proofs.«01_k».proof.Proof.Gen.Pre_drawn
public import proofs.«01_k».proof.Proof.Frames
public import proofs.«01_k».proof.Proof.Drawn
public import proofs.«01_k».proof.Proof.Algebraic

@[expose] public section

noncomputable section

namespace Cert.Proof

open Idealize.ShloMosaic Idealize.SL.Sem Cert.Proof.Bag

/-- Everything the certificate claims. -/
theorem claim : Cert.Claim :=
  ⟨Cert.Kernel.Gen.facts, Cert.KernelIdeal.Gen.facts, Cert.ReferenceIdeal.Gen.facts, Cert.Pre_in_vocab.Gen.facts,
    Cert.Pre_drawn.Gen.facts, frame_kernel, frame_ideal, frame_ideal_drawn, frame_reference, frame_reference_drawn, trivial, algebraic⟩

end Cert.Proof

end
